-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_pos_in_range [hPre_pos_in_range : Cert.Pre_pos_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_pos_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pos_in_range [hPre_pos_in_range : Cert.Pre_pos_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pos_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_pos_in_range [hKernelIdeal : Cert.KernelIdeal.Facts] [hPre_pos_in_range : Cert.Pre_pos_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pos_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_pos_in_range [hReferenceIdeal : Cert.ReferenceIdeal.Facts] [hPre_pos_in_range : Cert.Pre_pos_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pos_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_pos_in_range [hKernelIdeal : Cert.KernelIdeal.Facts] [hReferenceIdeal : Cert.ReferenceIdeal.Facts] [hPre_pos_in_range : Cert.Pre_pos_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pos_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v5_0)) (v1 : (c : Dev Cert.KernelIdeal.nD) → Buf (Elt Ideal) ((c.tc : Thread Cert.KernelIdeal.nD Cert.KernelIdeal.τ).loc Cert.KernelIdeal.main_v5_1)) (v2 : (c : Dev Cert.KernelIdeal.nD) → Buf (Elt Ideal) ((c.tc : Thread Cert.KernelIdeal.nD Cert.KernelIdeal.τ).loc Cert.KernelIdeal.main_v5_2)) (v3 : (c : Dev Cert.KernelIdeal.nD) → Buf (Elt Ideal) ((c.tc : Thread Cert.KernelIdeal.nD Cert.KernelIdeal.τ).loc Cert.KernelIdeal.main_v5_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5_0) = v0 c
          ∧ r.2.mem ((c.tc : Thread Cert.KernelIdeal.nD Cert.KernelIdeal.τ).loc Cert.KernelIdeal.main_v5_1) = v1 c
          ∧ r.2.mem ((c.tc : Thread Cert.KernelIdeal.nD Cert.KernelIdeal.τ).loc Cert.KernelIdeal.main_v5_2) = v2 c
          ∧ r.2.mem ((c.tc : Thread Cert.KernelIdeal.nD Cert.KernelIdeal.τ).loc Cert.KernelIdeal.main_v5_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_v67) = v1 c
          ∧ r.2.mem ((c.tc : Thread Cert.ReferenceIdeal.nD Cert.ReferenceIdeal.τ).loc Cert.ReferenceIdeal.main_v68) = v2 c
          ∧ r.2.mem ((c.tc : Thread Cert.ReferenceIdeal.nD Cert.ReferenceIdeal.τ).loc Cert.ReferenceIdeal.main_v19) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_pos_in_range : Cert.Pre_pos_in_range.Facts),
    quiescent_Kernel (hKernel := hKernel)
    ∧ quiescent_KernelIdeal (hKernelIdeal := hKernelIdeal)
    ∧ quiescent_KernelIdeal_pre_pos_in_range (hKernelIdeal := hKernelIdeal) (hPre_pos_in_range := hPre_pos_in_range)
    ∧ quiescent_ReferenceIdeal (hReferenceIdeal := hReferenceIdeal)
    ∧ quiescent_ReferenceIdeal_pre_pos_in_range (hReferenceIdeal := hReferenceIdeal) (hPre_pos_in_range := hPre_pos_in_range)
    ∧ preserves_Kernel_KernelIdeal
    ∧ algebraic_KernelIdeal_ReferenceIdeal_pre_pos_in_range (hKernelIdeal := hKernelIdeal) (hReferenceIdeal := hReferenceIdeal) (hPre_pos_in_range := hPre_pos_in_range)
-- ==== Pre_pos_in_range.lean ====
abbrev S48x32x96 : Shape := ⟨3, ![48, 32, 96]⟩
abbrev S48x32 : Shape := ⟨2, ![48, 32]⟩
abbrev S384x300x96 : Shape := ⟨3, ![384, 300, 96]⟩
abbrev S384x300 : Shape := ⟨2, ![384, 300]⟩
abbrev S384 : Shape := ⟨1, ![384]⟩
abbrev S48 : Shape := ⟨1, ![48]⟩
abbrev S48x8 : Shape := ⟨2, ![48, 8]⟩
abbrev S_ : Shape := ⟨0, ![]⟩

class Facts : Prop where
  bcast_S_S48 : S_.BroadcastsInDim S48 (![] : Fin 0 → Fin S48.rank)

variable [Facts]

def fn {F : FTy → Type} [FloatOps F] (main_arg0 : FVec F S48x32x96 .fp8e4m3) (main_arg1 : FVec F S48x32 .f32) (main_arg2 : FVec F S384x300x96 .fp8e4m3) (main_arg3 : FVec F S384x300 .f32) (main_arg4 : IVec S384 32) (main_arg5 : IVec S48 32) (main_arg6 : FVec F S48x8 .f32) : IVec S48 1 :=
  let main_c : IVec S_ 32 := constantI S_ 32 0#32
  let main_v0 : IVec S48 32 := broadcastInDim S48 ![] bcast_S_S48 main_c
  let main_v1 : IVec S48 1 := cmpi .sge main_arg5 main_v0
  let main_c_0 : IVec S_ 32 := constantI S_ 32 384#32
  let main_v2 : IVec S48 32 := broadcastInDim S48 ![] bcast_S_S48 main_c_0
  let main_v3 : IVec S48 1 := cmpi .slt main_arg5 main_v2
  let main_v4 : IVec S48 1 := andi main_v1 main_v3
  main_v4
-- ==== Kernel.lean ====
abbrev S48x32x96 : Shape := ⟨3, ![48, 32, 96]⟩
abbrev S48x32 : Shape := ⟨2, ![48, 32]⟩
abbrev S384x300x96 : Shape := ⟨3, ![384, 300, 96]⟩
abbrev S384x300 : Shape := ⟨2, ![384, 300]⟩
abbrev S384 : Shape := ⟨1, ![384]⟩
abbrev S48 : Shape := ⟨1, ![48]⟩
abbrev S48x8 : Shape := ⟨2, ![48, 8]⟩
abbrev S1536x96 : Shape := ⟨2, ![1536, 96]⟩
abbrev S96x1536 : Shape := ⟨2, ![96, 1536]⟩
abbrev S1x1536 : Shape := ⟨2, ![1, 1536]⟩
abbrev S384x300x1 : Shape := ⟨3, ![384, 300, 1]⟩
abbrev S48x1 : Shape := ⟨2, ![48, 1]⟩
abbrev S48x384 : Shape := ⟨2, ![48, 384]⟩
abbrev S48x384x32 : Shape := ⟨3, ![48, 384, 32]⟩
abbrev S8x300x96 : Shape := ⟨3, ![8, 300, 96]⟩
abbrev S8x300x1 : Shape := ⟨3, ![8, 300, 1]⟩
abbrev S48x8x32 : Shape := ⟨3, ![48, 8, 32]⟩
abbrev S8x1536 : Shape := ⟨2, ![8, 1536]⟩
abbrev S384x48 : Shape := ⟨2, ![384, 48]⟩
abbrev S96x256 : Shape := ⟨2, ![96, 256]⟩
abbrev S1x300x96 : Shape := ⟨3, ![1, 300, 96]⟩
abbrev S300x96 : Shape := ⟨2, ![300, 96]⟩
abbrev S300x256 : Shape := ⟨2, ![300, 256]⟩
abbrev S1x300x1 : Shape := ⟨3, ![1, 300, 1]⟩
abbrev S300x1 : Shape := ⟨2, ![300, 1]⟩
abbrev S1 : Shape := ⟨1, ![1]⟩
abbrev S256 : Shape := ⟨1, ![256]⟩
abbrev S1x256 : Shape := ⟨2, ![1, 256]⟩
abbrev S8x32 : Shape := ⟨2, ![8, 32]⟩
abbrev S1x8x32 : Shape := ⟨3, ![1, 8, 32]⟩
abbrev S8 : Shape := ⟨1, ![8]⟩
abbrev S8x1 : Shape := ⟨2, ![8, 1]⟩
abbrev S8x48 : Shape := ⟨2, ![8, 48]⟩

abbrev nBuf : Space → Nat
  | .hbm => 16
  | .vmem => 15
  | .smem => 1
  | _ => 0

abbrev bufTy : (tb : Table) → Fin (tcTables nBuf tb) → BufTy
  | .hbm, ⟨0, _⟩ => ⟨S48x32x96, .fp8e4m3⟩
  | .hbm, ⟨1, _⟩ => ⟨S48x32, .f32⟩
  | .hbm, ⟨2, _⟩ => ⟨S384x300x96, .fp8e4m3⟩
  | .hbm, ⟨3, _⟩ => ⟨S384x300, .f32⟩
  | .hbm, ⟨4, _⟩ => ⟨S384, .i32⟩
  | .hbm, ⟨5, _⟩ => ⟨S48, .i32⟩
  | .hbm, ⟨6, _⟩ => ⟨S48x8, .f32⟩
  | .hbm, ⟨7, _⟩ => ⟨S1536x96, .fp8e4m3⟩
  | .hbm, ⟨8, _⟩ => ⟨S96x1536, .fp8e4m3⟩
  | .hbm, ⟨9, _⟩ => ⟨S1x1536, .f32⟩
  | .hbm, ⟨10, _⟩ => ⟨S384x300x1, .f32⟩
  | .hbm, ⟨11, _⟩ => ⟨S48x1, .i32⟩
  | .hbm, ⟨12, _⟩ => ⟨S48x384, .f32⟩
  | .hbm, ⟨13, _⟩ => ⟨S48x1, .f32⟩
  | .hbm, ⟨14, _⟩ => ⟨S48x1, .f32⟩
  | .hbm, ⟨15, _⟩ => ⟨S48x384x32, .f32⟩
  | .local _ .vmem, ⟨0, _⟩ => ⟨S96x1536, .fp8e4m3⟩
  | .local _ .vmem, ⟨1, _⟩ => ⟨S1x1536, .f32⟩
  | .local _ .vmem, ⟨2, _⟩ => ⟨S8x300x96, .fp8e4m3⟩
  | .local _ .vmem, ⟨3, _⟩ => ⟨S8x300x96, .fp8e4m3⟩
  | .local _ .vmem, ⟨4, _⟩ => ⟨S8x300x1, .f32⟩
  | .local _ .vmem, ⟨5, _⟩ => ⟨S8x300x1, .f32⟩
  | .local _ .vmem, ⟨6, _⟩ => ⟨S48x1, .i32⟩
  | .local _ .vmem, ⟨7, _⟩ => ⟨S48x8, .f32⟩
  | .local _ .vmem, ⟨8, _⟩ => ⟨S48x384, .f32⟩
  | .local _ .vmem, ⟨9, _⟩ => ⟨S48x1, .f32⟩
  | .local _ .vmem, ⟨10, _⟩ => ⟨S48x1, .f32⟩
  | .local _ .vmem, ⟨11, _⟩ => ⟨S48x8x32, .f32⟩
  | .local _ .vmem, ⟨12, _⟩ => ⟨S48x8x32, .f32⟩
  | .local _ .vmem, ⟨13, _⟩ => ⟨S8x1536, .f32⟩
  | .local _ .vmem, ⟨14, _⟩ => ⟨S384x48, .f32⟩
  | .local _ .smem, ⟨0, _⟩ => ⟨S384, .i32⟩
  | _, _ => ⟨S48x32x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .smem, ⟨0, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5_0 : Ref sig .tc := ⟨.hbm, 12, rfl⟩
abbrev main_v5_1 : Ref sig .tc := ⟨.hbm, 13, rfl⟩
abbrev main_v5_2 : Ref sig .tc := ⟨.hbm, 14, rfl⟩
abbrev main_v5_3 : Ref sig .tc := ⟨.hbm, 15, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_scratch0 : Ref sig .tc := ⟨.vmem, 13, rfl⟩
abbrev cc0_scratch1 : Ref sig .tc := ⟨.vmem, 14, rfl⟩
abbrev cc0_stg4_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13

abbrev nD : Nat := 1
abbrev τ : Topo := Topo.v7x

variable {F : FTy → Type} [FloatOps F]

abbrev grid0 : Pipeline.Grid := ⟨1, ![48], ![false]⟩

def k0_off1 (i : grid0.Coords) (c0_i32 : BitVec 32) : Fin 1 → Nat :=
  let arg0 : BitVec 32 := BitVec.ofNat 32 (i 0).val
  let c8_i32 : BitVec 32 := 8#32
  let v10 : BitVec 32 := Scalar.muli arg0 c8_i32
  let v11 : BitVec 32 := Scalar.addi v10 c0_i32
  let v12 : Index := Scalar.indexCast v11
  ![v12.toNat]
def k0_mult1 (i : grid0.Coords) : BitVec 32 :=
  let arg0 : BitVec 32 := BitVec.ofNat 32 (i 0).val
  let c8_i32_769 : BitVec 32 := 8#32
  let v1410 : BitVec 32 := Scalar.muli arg0 c8_i32_769
  v1410
def k0_off2 (i : grid0.Coords) : Fin 2 → Nat :=
  let arg0 : BitVec 32 := BitVec.ofNat 32 (i 0).val
  let c8_i32_769 : BitVec 32 := 8#32
  let v1410 : BitVec 32 := Scalar.muli arg0 c8_i32_769
  let v1411 : BitVec 32 := v1410
  let v1412 : Index := Scalar.indexCast v1411
  let c0_770 : Index := 0#32
  ![v1412.toNat, 0]
def k0_cond1 (i : grid0.Coords) : BitVec 1 :=
  let arg0 : BitVec 32 := BitVec.ofNat 32 (i 0).val
  let c47_i32 : BitVec 32 := 47#32
  let v1416 : BitVec 1 := Scalar.cmpi .eq arg0 c47_i32
  let v1417 : BitVec 32 := Scalar.extui v1416
  let c0_i32_771 : BitVec 32 := 0#32
  let v1418 : BitVec 1 := Scalar.cmpi .ne v1417 c0_i32_771
  v1418

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 1 → Memref sig .tc .vmem S96x1536 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1x1536 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S8x300x96 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x300x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .smem S384 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S48x1 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S48x8 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S48x384 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S48x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S48x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S48x8x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== ReferenceIdeal.lean ====
abbrev S48x32x96 : Shape := ⟨3, ![48, 32, 96]⟩
abbrev S48x32 : Shape := ⟨2, ![48, 32]⟩
abbrev S384x300x96 : Shape := ⟨3, ![384, 300, 96]⟩
abbrev S384x300 : Shape := ⟨2, ![384, 300]⟩
abbrev S384 : Shape := ⟨1, ![384]⟩
abbrev S48 : Shape := ⟨1, ![48]⟩
abbrev S48x8 : Shape := ⟨2, ![48, 8]⟩
abbrev S300 : Shape := ⟨1, ![300]⟩
abbrev S1x300 : Shape := ⟨2, ![1, 300]⟩
abbrev S384x1 : Shape := ⟨2, ![384, 1]⟩
abbrev S1536x96 : Shape := ⟨2, ![1536, 96]⟩
abbrev S384x300x1536 : Shape := ⟨3, ![384, 300, 1536]⟩
abbrev S384x300x1 : Shape := ⟨3, ![384, 300, 1]⟩
abbrev S_ : Shape := ⟨0, ![]⟩
abbrev S384x1536 : Shape := ⟨2, ![384, 1536]⟩
abbrev S384x48x32 : Shape := ⟨3, ![384, 48, 32]⟩
abbrev S48x384x32 : Shape := ⟨3, ![48, 384, 32]⟩
abbrev S48x1x32 : Shape := ⟨3, ![48, 1, 32]⟩
abbrev S48x384 : Shape := ⟨2, ![48, 384]⟩
abbrev S48x1 : Shape := ⟨2, ![48, 1]⟩
abbrev S48x2 : Shape := ⟨2, ![48, 2]⟩
abbrev S48x48x8 : Shape := ⟨3, ![48, 48, 8]⟩

abbrev nBuf : Space → Nat
  | .hbm => 122
  | .vmem => 4
  | .smem => 0
  | _ => 0

abbrev bufTy : (tb : Table) → Fin (tcTables nBuf tb) → BufTy
  | .hbm, ⟨0, _⟩ => ⟨S48x32x96, .fp8e4m3⟩
  | .hbm, ⟨1, _⟩ => ⟨S48x32, .f32⟩
  | .hbm, ⟨2, _⟩ => ⟨S384x300x96, .fp8e4m3⟩
  | .hbm, ⟨3, _⟩ => ⟨S384x300, .f32⟩
  | .hbm, ⟨4, _⟩ => ⟨S384, .i32⟩
  | .hbm, ⟨5, _⟩ => ⟨S48, .i32⟩
  | .hbm, ⟨6, _⟩ => ⟨S48x8, .f32⟩
  | .hbm, ⟨7, _⟩ => ⟨S48x32x96, .f32⟩
  | .hbm, ⟨8, _⟩ => ⟨S384x300x96, .f32⟩
  | .hbm, ⟨9, _⟩ => ⟨S300, .i32⟩
  | .hbm, ⟨10, _⟩ => ⟨S1x300, .i32⟩
  | .hbm, ⟨11, _⟩ => ⟨S384x1, .i32⟩
  | .hbm, ⟨12, _⟩ => ⟨S384x300, .i32⟩
  | .hbm, ⟨13, _⟩ => ⟨S384x300, .i32⟩
  | .hbm, ⟨14, _⟩ => ⟨S384x300, .i1⟩
  | .hbm, ⟨15, _⟩ => ⟨S1536x96, .f32⟩
  | .hbm, ⟨16, _⟩ => ⟨S384x300x1536, .f32⟩
  | .hbm, ⟨17, _⟩ => ⟨S384x300x1, .f32⟩
  | .hbm, ⟨18, _⟩ => ⟨S384x300x1536, .f32⟩
  | .hbm, ⟨19, _⟩ => ⟨S384x300x1536, .f32⟩
  | .hbm, ⟨20, _⟩ => ⟨S384x300x1, .i1⟩
  | .hbm, ⟨21, _⟩ => ⟨S_, .f32⟩
  | .hbm, ⟨22, _⟩ => ⟨S_, .f32⟩
  | .hbm, ⟨23, _⟩ => ⟨S384x300x1536, .i1⟩
  | .hbm, ⟨24, _⟩ => ⟨S384x300x1536, .f32⟩
  | .hbm, ⟨25, _⟩ => ⟨S384x300x1536, .f32⟩
  | .hbm, ⟨26, _⟩ => ⟨S_, .f32⟩
  | .hbm, ⟨27, _⟩ => ⟨S384x1536, .f32⟩
  | .hbm, ⟨28, _⟩ => ⟨S384x48x32, .f32⟩
  | .hbm, ⟨29, _⟩ => ⟨S48x384x32, .f32⟩
  | .hbm, ⟨30, _⟩ => ⟨S48x1x32, .f32⟩
  | .hbm, ⟨31, _⟩ => ⟨S48x384x32, .f32⟩
  | .hbm, ⟨32, _⟩ => ⟨S48x384x32, .f32⟩
  | .hbm, ⟨33, _⟩ => ⟨S_, .f32⟩
  | .hbm, ⟨34, _⟩ => ⟨S48x384, .f32⟩
  | .hbm, ⟨35, _⟩ => ⟨S48, .i32⟩
  | .hbm, ⟨36, _⟩ => ⟨S_, .f32⟩
  | .hbm, ⟨37, _⟩ => ⟨S48, .f32⟩
  | .hbm, ⟨38, _⟩ => ⟨S48x1, .f32⟩
  | .hbm, ⟨39, _⟩ => ⟨S48x384, .f32⟩
  | .hbm, ⟨40, _⟩ => ⟨S48x384, .f32⟩
  | .hbm, ⟨41, _⟩ => ⟨S48x384, .f32⟩
  | .hbm, ⟨42, _⟩ => ⟨S_, .f32⟩
  | .hbm, ⟨43, _⟩ => ⟨S48, .f32⟩
  | .hbm, ⟨44, _⟩ => ⟨S48, .f32⟩
  | .hbm, ⟨45, _⟩ => ⟨S48, .f32⟩
  | .hbm, ⟨46, _⟩ => ⟨S_, .i32⟩
  | .hbm, ⟨47, _⟩ => ⟨S48, .i32⟩
  | .hbm, ⟨48, _⟩ => ⟨S48, .i1⟩
  | .hbm, ⟨49, _⟩ => ⟨S_, .i32⟩
  | .hbm, ⟨50, _⟩ => ⟨S48, .i32⟩
  | .hbm, ⟨51, _⟩ => ⟨S48, .i32⟩
  | .hbm, ⟨52, _⟩ => ⟨S48, .i32⟩
  | .hbm, ⟨53, _⟩ => ⟨S_, .i32⟩
  | .hbm, ⟨54, _⟩ => ⟨S48, .i32⟩
  | .hbm, ⟨55, _⟩ => ⟨S48, .i1⟩
  | .hbm, ⟨56, _⟩ => ⟨S_, .i32⟩
  | .hbm, ⟨57, _⟩ => ⟨S48, .i32⟩
  | .hbm, ⟨58, _⟩ => ⟨S48, .i32⟩
  | .hbm, ⟨59, _⟩ => ⟨S48, .i32⟩
  | .hbm, ⟨60, _⟩ => ⟨S48x1, .i32⟩
  | .hbm, ⟨61, _⟩ => ⟨S48x1, .i32⟩
  | .hbm, ⟨62, _⟩ => ⟨S48x2, .i32⟩
  | .hbm, ⟨63, _⟩ => ⟨S48, .f32⟩
  | .hbm, ⟨64, _⟩ => ⟨S48, .f32⟩
  | .hbm, ⟨65, _⟩ => ⟨S48x48x8, .f32⟩
  | .hbm, ⟨66, _⟩ => ⟨S_, .i32⟩
  | .hbm, ⟨67, _⟩ => ⟨S48, .i32⟩
  | .hbm, ⟨68, _⟩ => ⟨S48, .i1⟩
  | .hbm, ⟨69, _⟩ => ⟨S_, .i32⟩
  | .hbm, ⟨70, _⟩ => ⟨S48, .i32⟩
  | .hbm, ⟨71, _⟩ => ⟨S48, .i32⟩
  | .hbm, ⟨72, _⟩ => ⟨S48, .i32⟩
  | .hbm, ⟨73, _⟩ => ⟨S_, .i32⟩
  | .hbm, ⟨74, _⟩ => ⟨S48, .i32⟩
  | .hbm, ⟨75, _⟩ => ⟨S48, .i1⟩
  | .hbm, ⟨76, _⟩ => ⟨S_, .i32⟩
  | .hbm, ⟨77, _⟩ => ⟨S48, .i32⟩
  | .hbm, ⟨78, _⟩ => ⟨S48, .i32⟩
  | .hbm, ⟨79, _⟩ => ⟨S48, .i32⟩
  | .hbm, ⟨80, _⟩ => ⟨S48x1, .i32⟩
  | .hbm, ⟨81, _⟩ => ⟨S48x1, .i32⟩
  | .hbm, ⟨82, _⟩ => ⟨S48x2, .i32⟩
  | .hbm, ⟨83, _⟩ => ⟨S48x8, .f32⟩
  | .hbm, ⟨84, _⟩ => ⟨S_, .f32⟩
  | .hbm, ⟨85, _⟩ => ⟨S48, .f32⟩
  | .hbm, ⟨86, _⟩ => ⟨S_, .f32⟩
  | .hbm, ⟨87, _⟩ => ⟨S48, .f32⟩
  | .hbm, ⟨88, _⟩ => ⟨S48, .f32⟩
  | .hbm, ⟨89, _⟩ => ⟨S48x1, .f32⟩
  | .hbm, ⟨90, _⟩ => ⟨S48x8, .f32⟩
  | .hbm, ⟨91, _⟩ => ⟨S48x8, .f32⟩
  | .hbm, ⟨92, _⟩ => ⟨S48x8, .f32⟩
  | .hbm, ⟨93, _⟩ => ⟨S_, .f32⟩
  | .hbm, ⟨94, _⟩ => ⟨S48, .f32⟩
  | .hbm, ⟨95, _⟩ => ⟨S48x1, .f32⟩
  | .hbm, ⟨96, _⟩ => ⟨S48x1, .f32⟩
  | .hbm, ⟨97, _⟩ => ⟨S48x8, .f32⟩
  | .hbm, ⟨98, _⟩ => ⟨S48x8, .f32⟩
  | .hbm, ⟨99, _⟩ => ⟨S48x8, .f32⟩
  | .hbm, ⟨100, _⟩ => ⟨S_, .f32⟩
  | .hbm, ⟨101, _⟩ => ⟨S48, .f32⟩
  | .hbm, ⟨102, _⟩ => ⟨S_, .f32⟩
  | .hbm, ⟨103, _⟩ => ⟨S48, .f32⟩
  | .hbm, ⟨104, _⟩ => ⟨S48, .f32⟩
  | .hbm, ⟨105, _⟩ => ⟨S48x1, .f32⟩
  | .hbm, ⟨106, _⟩ => ⟨S48x8, .f32⟩
  | .hbm, ⟨107, _⟩ => ⟨S48x8, .f32⟩
  | .hbm, ⟨108, _⟩ => ⟨S48x8, .f32⟩
  | .hbm, ⟨109, _⟩ => ⟨S_, .f32⟩
  | .hbm, ⟨110, _⟩ => ⟨S48, .f32⟩
  | .hbm, ⟨111, _⟩ => ⟨S48x1, .f32⟩
  | .hbm, ⟨112, _⟩ => ⟨S48x1, .f32⟩
  | .hbm, ⟨113, _⟩ => ⟨S48x8, .f32⟩
  | .hbm, ⟨114, _⟩ => ⟨S48x8, .f32⟩
  | .hbm, ⟨115, _⟩ => ⟨S48x8, .f32⟩
  | .hbm, ⟨116, _⟩ => ⟨S48x8, .f32⟩
  | .hbm, ⟨117, _⟩ => ⟨S_, .f32⟩
  | .hbm, ⟨118, _⟩ => ⟨S48, .f32⟩
  | .hbm, ⟨119, _⟩ => ⟨S48, .f32⟩
  | .hbm, ⟨120, _⟩ => ⟨S48x1, .f32⟩
  | .hbm, ⟨121, _⟩ => ⟨S48x1, .f32⟩
  | .local _ .vmem, ⟨0, _⟩ => ⟨S48x32x96, .fp8e4m3⟩
  | .local _ .vmem, ⟨1, _⟩ => ⟨S384x300x96, .fp8e4m3⟩
  | .local _ .vmem, ⟨2, _⟩ => ⟨S48x32x96, .f32⟩
  | .local _ .vmem, ⟨3, _⟩ => ⟨S384x300x96, .f32⟩
  | _, _ => ⟨S48x32x96, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_call0_v0 : Ref sig .tc := ⟨.hbm, 22, rfl⟩
abbrev main_call0_v1 : Ref sig .tc := ⟨.hbm, 23, rfl⟩
abbrev main_call0_v2 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_1 : Ref sig .tc := ⟨.hbm, 33, rfl⟩
abbrev main_v20 : Ref sig .tc := ⟨.hbm, 34, rfl⟩
abbrev main_v21 : Ref sig .tc := ⟨.hbm, 35, rfl⟩
abbrev main_cst_2 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_c : Ref sig .tc := ⟨.hbm, 46, rfl⟩
abbrev main_v30 : Ref sig .tc := ⟨.hbm, 47, rfl⟩
abbrev main_v31 : Ref sig .tc := ⟨.hbm, 48, rfl⟩
abbrev main_c_4 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_c_5 : Ref sig .tc := ⟨.hbm, 53, rfl⟩
abbrev main_v35 : Ref sig .tc := ⟨.hbm, 54, rfl⟩
abbrev main_v36 : Ref sig .tc := ⟨.hbm, 55, rfl⟩
abbrev main_c_6 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_c_7 : Ref sig .tc := ⟨.hbm, 66, rfl⟩
abbrev main_v46 : Ref sig .tc := ⟨.hbm, 67, rfl⟩
abbrev main_v47 : Ref sig .tc := ⟨.hbm, 68, rfl⟩
abbrev main_c_8 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_9 : Ref sig .tc := ⟨.hbm, 73, rfl⟩
abbrev main_v51 : Ref sig .tc := ⟨.hbm, 74, rfl⟩
abbrev main_v52 : Ref sig .tc := ⟨.hbm, 75, rfl⟩
abbrev main_c_10 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_call1_cst : Ref sig .tc := ⟨.hbm, 84, rfl⟩
abbrev main_call1_v0 : Ref sig .tc := ⟨.hbm, 85, rfl⟩
abbrev main_call1_cst_0 : Ref sig .tc := ⟨.hbm, 86, rfl⟩
abbrev main_call1_v1 : Ref sig .tc := ⟨.hbm, 87, rfl⟩
abbrev main_call1_v2 : Ref sig .tc := ⟨.hbm, 88, rfl⟩
abbrev main_call1_v3 : Ref sig .tc := ⟨.hbm, 89, rfl⟩
abbrev main_call1_v4 : Ref sig .tc := ⟨.hbm, 90, rfl⟩
abbrev main_call1_v5 : Ref sig .tc := ⟨.hbm, 91, rfl⟩
abbrev main_call1_v6 : Ref sig .tc := ⟨.hbm, 92, rfl⟩
abbrev main_call1_cst_1 : Ref sig .tc := ⟨.hbm, 93, rfl⟩
abbrev main_call1_v7 : Ref sig .tc := ⟨.hbm, 94, rfl⟩
abbrev main_call1_v8 : Ref sig .tc := ⟨.hbm, 95, rfl⟩
abbrev main_call1_v9 : Ref sig .tc := ⟨.hbm, 96, rfl⟩
abbrev main_call1_v10 : Ref sig .tc := ⟨.hbm, 97, rfl⟩
abbrev main_v60 : Ref sig .tc := ⟨.hbm, 98, rfl⟩
abbrev main_v61 : Ref sig .tc := ⟨.hbm, 99, rfl⟩
abbrev main_call2_cst : Ref sig .tc := ⟨.hbm, 100, rfl⟩
abbrev main_call2_v0 : Ref sig .tc := ⟨.hbm, 101, rfl⟩
abbrev main_call2_cst_0 : Ref sig .tc := ⟨.hbm, 102, rfl⟩
abbrev main_call2_v1 : Ref sig .tc := ⟨.hbm, 103, rfl⟩
abbrev main_call2_v2 : Ref sig .tc := ⟨.hbm, 104, rfl⟩
abbrev main_call2_v3 : Ref sig .tc := ⟨.hbm, 105, rfl⟩
abbrev main_call2_v4 : Ref sig .tc := ⟨.hbm, 106, rfl⟩
abbrev main_call2_v5 : Ref sig .tc := ⟨.hbm, 107, rfl⟩
abbrev main_call2_v6 : Ref sig .tc := ⟨.hbm, 108, rfl⟩
abbrev main_call2_cst_1 : Ref sig .tc := ⟨.hbm, 109, rfl⟩
abbrev main_call2_v7 : Ref sig .tc := ⟨.hbm, 110, rfl⟩
abbrev main_call2_v8 : Ref sig .tc := ⟨.hbm, 111, rfl⟩
abbrev main_call2_v9 : Ref sig .tc := ⟨.hbm, 112, rfl⟩
abbrev main_call2_v10 : Ref sig .tc := ⟨.hbm, 113, rfl⟩
abbrev main_v62 : Ref sig .tc := ⟨.hbm, 114, rfl⟩
abbrev main_v63 : Ref sig .tc := ⟨.hbm, 115, rfl⟩
abbrev main_v64 : Ref sig .tc := ⟨.hbm, 116, rfl⟩
abbrev main_cst_11 : Ref sig .tc := ⟨.hbm, 117, rfl⟩
abbrev main_v65 : Ref sig .tc := ⟨.hbm, 118, rfl⟩
abbrev main_v66 : Ref sig .tc := ⟨.hbm, 119, rfl⟩
abbrev main_v67 : Ref sig .tc := ⟨.hbm, 120, rfl⟩
abbrev main_v68 : Ref sig .tc := ⟨.hbm, 121, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S48x32x96 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S384x300x96 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x32x96 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S384x300x96 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.KernelSetup.lean ====
/-
  The frame of the kernel at any float values: its arguments from a run, the branch condition over the points, and the
  memrefs the body is given.
-/
module

public import proofs.«01_k».proof.Proof.Gen.Kernel.Launch
public import proofs.«01_k».proof.Proof.Gen.Kernel.Skeleton
public import proofs.«01_k».proof.Proof.Gen.Kernel.Points
public import proofs.«01_k».proof.Proof.Gen.Kernel.Frame
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The frame claim's post from the frame run's -/

/-- A run that leaves the input arrays as the region found them leaves the seven arguments as launched. -/
theorem frame_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨((h c).2 main_arg0 (Pipeline.mem_restRefs_of main_arg0 (by decide) (by decide))).trans (V_main_arg0 m c),
      ((h c).2 main_arg1 (Pipeline.mem_restRefs_of main_arg1 (by decide) (by decide))).trans (V_main_arg1 m c),
      (Pipeline.RDat.FramePost.arr_in h c 2 rfl).trans ((hA c 2).trans (V_main_arg2 m c)),
      ((h c).2 main_arg3 (Pipeline.mem_restRefs_of main_arg3 (by decide) (by decide))).trans (V_main_arg3 m c),
      (Pipeline.RDat.FramePost.arr_in h c 4 rfl).trans ((hA c 4).trans (V_main_arg4 m c)),
      ((h c).2 main_arg5 (Pipeline.mem_restRefs_of main_arg5 (by decide) (by decide))).trans (V_main_arg5 m c),
      (Pipeline.RDat.FramePost.arr_in h c 6 rfl).trans ((hA c 6).trans (V_main_arg6 m c))⟩) h

/-! ## The body's branch conditions -/

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 48 = 47 :=
  (fun t => by
    have ht : t.val < 48 := Nat.lt_of_lt_of_eq t.isLt N_0
    have e0 : (grid0.coords t 0).val = t.val / 1 % 48 := Pipeline.Grid.coords_val t 0 (by decide) rfl
    simp only [cond0_0, k0_cond1, e0]
    word_cmp
   : ∀ t : Fin grid0.N, cond0_0 (grid0.coords t) ↔ t.val % 48 = 47)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S96x1536 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x300x96 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x300x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S384 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x1 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S48x8 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S48x384 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S48x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S48x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S48x8x32 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S8x1536 .f32 := Memref.whole cc0_scratch0
abbrev scM0_1 : Memref sig .tc .vmem S384x48 .f32 := Memref.whole cc0_scratch1

/-- The invariant's scratch part: both scratch buffers owned at some contents, beside the generator register. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.Kernel.Body

end
-- ==== Proof.KernelRunA.lean ====
/-
  The frame of the kernel: the body at a grid point other than the last, whatever the float values.
-/
module

public import proofs.«01_k».proof.Proof.KernelSetup

@[expose] public section

set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3108000 in
/-- The body at a point other than the last. On whole memrefs, the inputs at their contents and the results and scratch buffers at anything, it
    runs to its end, with the inputs as they were and the rest at some contents. -/
theorem kernelRun0_A (c : Dev nD) (i : grid0.Coords) (arg1 : Memref sig .tc .vmem S96x1536 .fp8e4m3) (harg1 : arg1.IsWhole) (arg2 : Memref sig .tc .vmem S1x1536 .f32) (harg2 : arg2.IsWhole) (arg3 : Memref sig .tc .vmem S8x300x96 .fp8e4m3) (harg3 : arg3.IsWhole) (arg4 : Memref sig .tc .vmem S8x300x1 .f32) (harg4 : arg4.IsWhole) (arg5 : Memref sig .tc .smem S384 .i32) (harg5 : arg5.IsWhole) (arg6 : Memref sig .tc .vmem S48x1 .i32) (harg6 : arg6.IsWhole) (arg7 : Memref sig .tc .vmem S48x8 .f32) (harg7 : arg7.IsWhole) (arg8 : Memref sig .tc .vmem S48x384 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S48x8x32 .f32) (harg11 : arg11.IsWhole) (arg12 : Memref sig .tc .vmem S8x1536 .f32) (harg12 : arg12.IsWhole) (arg13 : Memref sig .tc .vmem S384x48 .f32) (harg13 : arg13.IsWhole) (hc0 : ¬cond0_0 i)
    (x0 : Vec F S96x1536 .fp8e4m3) (x1 : Vec F S1x1536 .f32) (x2 : Vec F S8x300x96 .fp8e4m3) (x3 : Vec F S8x300x1 .f32) (x4 : Vec F S384 .i32) (x5 : Vec F S48x1 .i32) (x6 : Vec F S48x8 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_maxsim i arg1 harg1 arg2 harg2 arg3 harg3 arg4 harg4 arg5 harg5 arg6 harg6 arg7 harg7 arg8 harg8 arg9 harg9 arg10 harg10 arg11 harg11 arg12 harg12 arg13 harg13) K := by
    intro E K
    simp only [cc0_maxsim_eq_skeleton]; unfold cc0_maxsim_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    iexists _, _; isplitr; swap; · iexact HS1
    ipureintro; rfl

end Cert.Kernel.Body

end
-- ==== Proof.KernelRunB.lean ====
/-
  The frame of the kernel: the body at the last grid point, whatever the float values.
-/
module

public import proofs.«01_k».proof.Proof.KernelRunA

@[expose] public section

set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 3244000 in
/-- The body at the last point. On whole memrefs, the inputs at their contents and the results and scratch buffers at anything, it
    runs to its end, with the inputs as they were and the rest at some contents. -/
theorem kernelRun0_B (c : Dev nD) (i : grid0.Coords) (arg1 : Memref sig .tc .vmem S96x1536 .fp8e4m3) (harg1 : arg1.IsWhole) (arg2 : Memref sig .tc .vmem S1x1536 .f32) (harg2 : arg2.IsWhole) (arg3 : Memref sig .tc .vmem S8x300x96 .fp8e4m3) (harg3 : arg3.IsWhole) (arg4 : Memref sig .tc .vmem S8x300x1 .f32) (harg4 : arg4.IsWhole) (arg5 : Memref sig .tc .smem S384 .i32) (harg5 : arg5.IsWhole) (arg6 : Memref sig .tc .vmem S48x1 .i32) (harg6 : arg6.IsWhole) (arg7 : Memref sig .tc .vmem S48x8 .f32) (harg7 : arg7.IsWhole) (arg8 : Memref sig .tc .vmem S48x384 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S48x8x32 .f32) (harg11 : arg11.IsWhole) (arg12 : Memref sig .tc .vmem S8x1536 .f32) (harg12 : arg12.IsWhole) (arg13 : Memref sig .tc .vmem S384x48 .f32) (harg13 : arg13.IsWhole) (hc0 : cond0_0 i)
    (x0 : Vec F S96x1536 .fp8e4m3) (x1 : Vec F S1x1536 .f32) (x2 : Vec F S8x300x96 .fp8e4m3) (x3 : Vec F S8x300x1 .f32) (x4 : Vec F S384 .i32) (x5 : Vec F S48x1 .i32) (x6 : Vec F S48x8 .f32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)) -∗ K ⟨⟩))
          ⊢ wp frame (wpE (defs₀ (F := F)) Variants.none c none) E (cc0_maxsim i arg1 harg1 arg2 harg2 arg3 harg3 arg4 harg4 arg5 harg5 arg6 harg6 arg7 harg7 arg8 harg8 arg9 harg9 arg10 harg10 arg11 harg11 arg12 harg12 arg13 harg13) K := by
    intro E K
    simp only [cc0_maxsim_eq_skeleton]; unfold cc0_maxsim_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%ds0, %fs0, -, HS0⟩, ⟨%ds1, %fs1, -, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [HS0]
    · iexists _, _; isplitr; swap; · iexact HS0
      ipureintro; rfl
    iexists _, _; isplitr; swap; · iexact HS1
    ipureintro; rfl

end Cert.Kernel.Body

end
-- ==== Proof.KernelFrame.lean ====
/-
  The frame of the kernel: it terminates without fault, its arguments end unchanged and its counters at zero,
  whatever the float values. Nothing is said here of what it computes.
-/
module

public import proofs.«01_k».proof.Proof.KernelRunB
public import Idealize.ShloMosaic.Lib.Claim

@[expose] public section

set_option maxRecDepth 16384

noncomputable section

namespace Cert.Kernel.Body

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The four result windows: the frame names nothing of what the kernel leaves in them. -/
def forgets0 : Fin 11 → Bool := fun w => w.val == 7 || w.val == 8 || w.val == 9 || w.val == 10

/-- The proof data: the arrays as the region finds them; after the body at point `t` each input's buffer still at its block
    and the results unnamed; the scratch buffers owned at some contents; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, h⟩ => Pipeline.Dat.unnamed (cfg := cfg0) ⟨7, h⟩ t
    | ⟨8, h⟩ => Pipeline.Dat.unnamed (cfg := cfg0) ⟨8, h⟩ t
    | ⟨9, h⟩ => Pipeline.Dat.unnamed (cfg := cfg0) ⟨9, h⟩ t
    | ⟨10, h⟩ => Pipeline.Dat.unnamed (cfg := cfg0) ⟨10, h⟩ t
  Φ _ := Pipeline.ΦA spec0 c
  q _ := fullShare
  owed _ := 0

/-- The proof data's arrays are what the region finds. -/
theorem A_eq (c : Dev nD) (w : Fin cfg0.W) : (dats m 0 c).A w = V m c (Pipeline.arrRef spec0 w) := by
  dsimp only [dats]

/-- The body leaves each input at its block. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (∃ d, owns (c : Thread nD τ) (ms0_7 t) fullShare d)
    ∗ (∃ d, owns (c : Thread nD τ) (ms0_8 t) fullShare d)
    ∗ (∃ d, owns (c : Thread nD τ) (ms0_9 t) fullShare d)
    ∗ (∃ d, owns (c : Thread nD τ) (ms0_10 t) fullShare d))

set_option maxHeartbeats 2400000 in
/-- The body at any point: it takes the inputs at their blocks and hands them back so, the results and the scratch buffers
    at some contents. The last point is one case, every other point the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6]
  rw [show (dats m 0 c).Φ t.succ = (dats m 0 c).Φ t.castSucc from rfl,
    show (dats m 0 c).owesAt () t.succ = (dats m 0 c).owesAt () t.castSucc from rfl]
  rw [show (dats m 0 c).Φ t.castSucc = Pipeline.ΦA spec0 c from rfl, PhiA0_eq]
  have hN : t.val < 48 := lt_of_lt_of_eq t.isLt (show cfg0.N = 48 from N_0)
  by_cases h0 : t.val % 48 = 47
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_B c (grid0.coords t) _ _ _ _ _ _ _ _ _ _ _ _ _ _ _ _ _ _ _ _ _ _ _ _ _ _ ((hcond0_0 t).mpr h0) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10
  · rw [show (dats m 0 c).leavesExact 0 t = owns (c : Thread nD τ) (ms0_0 t) fullShare ((dats m 0 c).after 0 t) from by
      unfold Dat.leavesExact; rw [liveAt0_0 t], after0_0]
    rw [show (dats m 0 c).leavesExact 1 t = owns (c : Thread nD τ) (ms0_1 t) fullShare ((dats m 0 c).after 1 t) from by
      unfold Dat.leavesExact; rw [liveAt0_1 t], after0_1]
    rw [show (dats m 0 c).leavesExact 2 t = owns (c : Thread nD τ) (ms0_2 t) fullShare ((dats m 0 c).after 2 t) from by
      unfold Dat.leavesExact; rw [liveAt0_2 t], after0_2]
    rw [show (dats m 0 c).leavesExact 3 t = owns (c : Thread nD τ) (ms0_3 t) fullShare ((dats m 0 c).after 3 t) from by
      unfold Dat.leavesExact; rw [liveAt0_3 t], after0_3]
    rw [show (dats m 0 c).leavesExact 4 t = owns (c : Thread nD τ) (ms0_4 t) fullShare ((dats m 0 c).after 4 t) from by
      unfold Dat.leavesExact; rw [liveAt0_4 t], after0_4]
    rw [show (dats m 0 c).leavesExact 5 t = owns (c : Thread nD τ) (ms0_5 t) fullShare ((dats m 0 c).after 5 t) from by
      unfold Dat.leavesExact; rw [liveAt0_5 t], after0_5]
    rw [show (dats m 0 c).leavesExact 6 t = owns (c : Thread nD τ) (ms0_6 t) fullShare ((dats m 0 c).after 6 t) from by
      unfold Dat.leavesExact; rw [liveAt0_6 t], after0_6]
    iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((kernelRun0_A c (grid0.coords t) _ _ _ _ _ _ _ _ _ _ _ _ _ _ _ _ _ _ _ _ _ _ _ _ _ _ (fun h => h0 ((hcond0_0 t).mp h)) (iblk m c 0 t) (iblk m c 1 t) (iblk m c 2 t) (iblk m c 3 t) (iblk m c 4 t) (iblk m c 5 t) (iblk m c 6 t)) Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · iexact HS0
        iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    iexact H10

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

/-! ## The run and the frame -/

-- the theorem's implicit arguments are found by unifying its conclusion with this one, which takes unfolding plain
-- definitions in a metavariable's type
set_option backward.isDefEq.respectTransparency.types false in
/-- The launch: every execution terminates, the input arrays end unchanged, the counters at zero. -/
theorem run_main_quiescent : θ_run defs (onTc (τ := τ) (main (F := F))) (s₀ m ρ) (fun r => (Pipeline.RDat.FramePost (cfgs 0) (fun c => (dats m 0 c).toRForget forgets0) (V m)) r ∧ r.2.sem = fun _ => 0) :=
  Pipeline.θ_run_frame_forget (Q' := _) cfgs (dats m) (0 : Fin 1) launch0 defs₀ Variants.none forgets0 m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The same without the counters. -/
theorem run_main : θ_run defs (onTc (τ := τ) (main (F := F))) (s₀ m ρ) (Pipeline.RDat.FramePost (cfgs 0) (fun c => (dats m 0 c).toRForget forgets0) (V m)) :=
  (θ_run defs _ _).mono (fun _ h => h.1) (run_main_quiescent m ρ)

/-- The argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (fun c => (dats m 0 c).toRForget forgets0) (A_eq m) (run_main m ρ)

/-- The frame. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.Kernel.Body

end
-- ==== Proof.Spec.lean ====
/-
  The mathematics of the problem on plain indices, over the extended reals: the masked token scores, their maximum over
  a document's tokens, the scores, and the two losses made of them.
-/
module

public import Idealize.ShloMosaic.PureOps.Ideal.Laws
public import Idealize.ShloMosaic.Lib.ValueIdx
public import Idealize.ShloMosaic.Lib.ValueIdxCoords
public import Idealize.ShloMosaic.Lib.KernelVsHost
public import Idealize.ShloMosaic.Lib.Pipeline.Value

@[expose] public section

noncomputable section

namespace Cert.MaxSim

open Idealize.ShloMosaic Idealize.ShloMosaic.ValueIdx

/-- The value of the word a masked token gets, and from which every maximum starts. -/
def negInf : EReal := FloatOps.ofBits (F := Ideal) .f32 0xFF800000#32

/-- The maximum of finitely many values, from `negInf`. -/
def maxOf {n : Nat} (f : Fin n → EReal) : EReal := (Finset.univ : Finset (Fin n)).fold max negInf f

/-- The maximum is at least the value it starts from. -/
theorem max_negInf_maxOf {n : Nat} (f : Fin n → EReal) : max negInf (maxOf f) = maxOf f :=
  max_eq_right (Finset.le_fold_max _ |>.mpr (Or.inl le_rfl))

/-- One token's score: the inner product of the document's token and the query's, times the token's scale, or the
    masked value when the token lies past the document's length. -/
def tokenScore (dot ds : EReal) (s : Nat) (len : BitVec 32) : EReal :=
  Scalar.select (IntOp.cmpi .slt (BitVec.ofNat 32 s) len) (dot * ds) negInf

/-- `log ∑ exp` of a row, shifted by the row's maximum. -/
def lse {n : Nat} (x : Fin n → EReal) : EReal :=
  FloatOps.log (F := Ideal) (φ := .f32) (∑ k, FloatOps.exp (F := Ideal) (φ := .f32) (x k - maxOf x)) + maxOf x

/-- The logarithm of the softmax of a row. -/
def logSoftmax {n : Nat} (x : Fin n → EReal) (i : Fin n) : EReal :=
  (x i - maxOf x) - FloatOps.log (F := Ideal) (φ := .f32) (∑ k, FloatOps.exp (F := Ideal) (φ := .f32) (x k - maxOf x))

/-- The Kullback–Leibler divergence of two rows of logits. -/
def kl {n : Nat} (t g : Fin n → EReal) : EReal :=
  ∑ w, FloatOps.exp (F := Ideal) (φ := .f32) (logSoftmax t w) * (logSoftmax t w - logSoftmax g w)

/-! ## One-axis reductions of a rank-two array, at an index -/

/-- The maximum down the rows of column `n`. -/
theorem maxRed0_apply {K N : Nat} (src : FVec Ideal ⟨2, ![K, N]⟩ .f32) (h : Shape.Reduces ⟨2, ![K, N]⟩ [0] ⟨1, ![N]⟩)
    (hφ : FKind.Formats .f32) (hacc : (0xFF800000#32 : BitVec 32) = FKind.maximumf.neutral .f32 hφ) (n : Fin N) :
    multiReduction .maximumf [0] ⟨1, ![N]⟩ src 0xFF800000#32 h hφ hacc (ix1 n) = maxOf fun k : Fin K => src (ix2 k n) := by
  refine (Ideal.multiReduction_maximumf_single src _ h hφ hacc (ix1 n)).trans ?_
  refine congrArg ((Finset.univ : Finset (Fin K)).fold max negInf) (funext fun k : Fin K => congrArg src ?_)
  funext a
  match a with
  | ⟨0, _⟩ => rfl
  | ⟨1, _⟩ => rfl

/-- The maximum along row `r`. -/
theorem maxRed1_apply {K N : Nat} (src : FVec Ideal ⟨2, ![K, N]⟩ .f32) (h : Shape.Reduces ⟨2, ![K, N]⟩ [1] ⟨1, ![K]⟩)
    (hφ : FKind.Formats .f32) (hacc : (0xFF800000#32 : BitVec 32) = FKind.maximumf.neutral .f32 hφ) (r : Fin K) :
    multiReduction .maximumf [1] ⟨1, ![K]⟩ src 0xFF800000#32 h hφ hacc (ix1 r) = maxOf fun k : Fin N => src (ix2 r k) := by
  refine (Ideal.multiReduction_maximumf_single src _ h hφ hacc (ix1 r)).trans ?_
  refine congrArg ((Finset.univ : Finset (Fin N)).fold max negInf) (funext fun k : Fin N => congrArg src ?_)
  funext a
  match a with
  | ⟨0, _⟩ => rfl
  | ⟨1, _⟩ => rfl

/-- The sum along row `r`. -/
theorem addRed1_apply {K N : Nat} (src : FVec Ideal ⟨2, ![K, N]⟩ .f32) (h : Shape.Reduces ⟨2, ![K, N]⟩ [1] ⟨1, ![K]⟩)
    (hφ : FKind.Formats .f32) (hacc : (0x00000000#32 : BitVec 32) = FKind.add.neutral .f32 hφ) (r : Fin K) :
    multiReduction .add [1] ⟨1, ![K]⟩ src 0x00000000#32 h hφ hacc (ix1 r) = ∑ k : Fin N, src (ix2 r k) := by
  refine (Ideal.multiReduction_add_single src _ h hφ hacc (ix1 r)).trans ?_
  refine Finset.sum_congr rfl fun (k : Fin N) _ => congrArg src ?_
  funext a
  match a with
  | ⟨0, _⟩ => rfl
  | ⟨1, _⟩ => rfl

/-- The same maximum as the host reduces it, along row `r`. -/
theorem hostMax1_apply {K N : Nat} {u : Shape} (src : FVec Ideal ⟨2, ![K, N]⟩ .f32) (h' : Shape.ReducesTo ⟨2, ![K, N]⟩ [1] ⟨1, ![K]⟩)
    (h : Shape.Reduces ⟨2, ![K, N]⟩ [1] ⟨1, ![K]⟩) (hu : 0 < u.numel) (r : Fin K) :
    Host.reduce FloatOps.maximumf src (constant u .f32 0xFF800000#32) h' hu (ix1 r) = maxOf fun k : Fin N => src (ix2 r k) := by
  refine (congrFun (hostReduce_maximumf_eq_multiReduction src _ h' hu h (.inl rfl) rfl) (ix1 r)).trans ?_
  exact maxRed1_apply src h _ _ r

/-! ## A column of a rank-two array kept as a unit axis -/

/-- A row of values as a column. -/
theorem colCast_apply {K : Nat} {α : Type} (v : (⟨1, ![K]⟩ : Shape).Idx → α) (h : (⟨1, ![K]⟩ : Shape).ShapeCasts ⟨2, ![K, 1]⟩)
    (r : Fin K) (z : Fin 1) : shapeCast ⟨2, ![K, 1]⟩ v h (ix2 r z) = v (ix1 r) :=
  shapeCast_apply _ _ _ _ (by
    rw [Shape.rowMajor_val_one, Shape.rowMajor_val_two]
    show r.val = r.val * 1 + z.val
    omega)

/-- A column laid along `N` lanes. -/
theorem colBcast_apply {K N : Nat} {α : Type} (v : (⟨2, ![K, 1]⟩ : Shape).Idx → α) (h : (⟨2, ![K, 1]⟩ : Shape).Broadcasts ⟨2, ![K, N]⟩)
    (hK : K ≠ 1) (r : Fin K) (c : Fin N) : broadcastTo ⟨2, ![K, N]⟩ v h (ix2 r c) = v (ix2 r 0) :=
  broadcastTo_apply _ _ _ _ (by
    intro a
    match a with
    | ⟨0, _⟩ => exact (if_neg hK).symm
    | ⟨1, _⟩ => rfl)

end Cert.MaxSim
-- ==== Proof.Problem.lean ====
/-
  The four results of the problem over the whole argument arrays, index by index: what both programs are proved to
  leave.
-/
module

public import proofs.«01_k».proof.Proof.Spec

@[expose] public section

noncomputable section

namespace Cert.MaxSim

open Idealize.ShloMosaic Idealize.ShloMosaic.ValueIdx

variable (A0 : (⟨3, ![48, 32, 96]⟩ : Shape).Idx → EReal) (A1 : (⟨2, ![48, 32]⟩ : Shape).Idx → EReal)
  (A2 : (⟨3, ![384, 300, 96]⟩ : Shape).Idx → EReal) (A3 : (⟨2, ![384, 300]⟩ : Shape).Idx → EReal)
  (A4 : (⟨1, ![384]⟩ : Shape).Idx → BitVec 32) (A6 : (⟨2, ![48, 8]⟩ : Shape).Idx → EReal)

/-- The best score of token `l` of query `b` among the tokens of document `j`. -/
def best (b : Fin 48) (j : Fin 384) (l : Fin 32) : EReal :=
  maxOf fun s : Fin 300 => tokenScore (∑ k : Fin 96, A2 (ix3 j s k) * A0 (ix3 b l k)) (A3 (ix2 j s)) s.val (A4 (ix1 j))

/-- The same, times the query token's scale. -/
def tokenMax (b : Fin 48) (j : Fin 384) (l : Fin 32) : EReal := best A0 A2 A3 A4 b j l * A1 (ix2 b l)

/-- The score of document `j` for query `b`. -/
def docScore (b : Fin 48) (j : Fin 384) : EReal := ∑ l : Fin 32, tokenMax A0 A1 A2 A3 A4 b j l

/-- The distillation loss of query `b`: its own eight documents' scores against the teacher's. -/
def klLoss (b : Fin 48) : EReal :=
  kl (fun k : Fin 8 => A6 (ix2 b k)) fun k : Fin 8 => docScore A0 A1 A2 A3 A4 b ⟨8 * b.val + k.val, by have := b.isLt; have := k.isLt; omega⟩

/-- The contrastive loss of query `b` whose document is `p`, plus the distillation loss. -/
def fullLoss (b : Fin 48) (p : Fin 384) : EReal :=
  lse (fun j : Fin 384 => docScore A0 A1 A2 A3 A4 b j) - docScore A0 A1 A2 A3 A4 b p + klLoss A0 A1 A2 A3 A4 A6 b

end Cert.MaxSim
-- ==== Proof.Setup.lean ====
/-
  What the body of the kernel is run over: the condition of its one branch at a grid point, the staging memrefs of
  the windows at a point, and the region's invariant with the two scratch buffers as memrefs.
-/
module

public import proofs.«01_k».proof.Proof.Gen.KernelIdeal.Frame
public import proofs.«01_k».proof.Proof.Gen.KernelIdeal.Skeleton

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The condition of the body's `scf.if` 0 (`k0_h1`), from the grid coordinates (the skeleton's scalar
    chain substituted). -/
abbrev cond0_0 (i : grid0.Coords) : Prop := k0_cond1 i = 1#1
/-- It holds at the last point only — by arithmetic of the point. -/
theorem hcond0_0 : ∀ t : Fin cfg0.N, cond0_0 (grid0.coords t) ↔ t.val % 48 = 47 :=
  (fun t => by
    have ht : t.val < 48 := Nat.lt_of_lt_of_eq t.isLt N_0
    have e0 : (grid0.coords t 0).val = t.val / 1 % 48 := Pipeline.Grid.coords_val t 0 (by decide) rfl
    simp only [cond0_0, k0_cond1, e0]
    word_cmp
   : ∀ t : Fin grid0.N, cond0_0 (grid0.coords t) ↔ t.val % 48 = 47)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S96x1536 .fp8e4m3 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x1536 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S8x300x96 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S8x300x1 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .smem S384 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S48x1 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S48x8 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S48x384 .f32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S48x1 .f32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .vmem S48x1 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .vmem S48x8x32 .f32 := win0_10.stage (cfg0.slots t 10)
abbrev hs0_10 (t : Fin cfg0.N) : (ms0_10 t).IsWhole := hstage0_10 ((cfg0.slots t 10).cast nbuf0_10)
/-- The scratch operands: whole scoped buffers of the kernel's own, passed beside the windows. -/
abbrev scM0_0 : Memref sig .tc .vmem S8x1536 .f32 := Memref.whole cc0_scratch0
abbrev scM0_1 : Memref sig .tc .vmem S384x48 .f32 := Memref.whole cc0_scratch1

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

end Cert.KernelIdeal.Body

end
-- ==== Proof.RunA.lean ====
/-
  The body of the kernel run at a grid point other than the last.
-/
module

public import proofs.«01_k».proof.Proof.Setup

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run is a large term
set_option maxHeartbeats 8000000 in
/-- The body at a point other than the last. On whole memrefs — the inputs at their contents, the score
    scratch at `xs` — it ends with the token-maximum block and both scratch buffers written: the lists of pieces are
    what the run finds. The other three result blocks are not touched. -/
def runA (c : Dev nD) (i : grid0.Coords) (arg1 : Memref sig .tc .vmem S96x1536 .fp8e4m3) (harg1 : arg1.IsWhole) (arg2 : Memref sig .tc .vmem S1x1536 .f32) (harg2 : arg2.IsWhole) (arg3 : Memref sig .tc .vmem S8x300x96 .fp8e4m3) (harg3 : arg3.IsWhole) (arg4 : Memref sig .tc .vmem S8x300x1 .f32) (harg4 : arg4.IsWhole) (arg5 : Memref sig .tc .smem S384 .i32) (harg5 : arg5.IsWhole) (arg6 : Memref sig .tc .vmem S48x1 .i32) (harg6 : arg6.IsWhole) (arg7 : Memref sig .tc .vmem S48x8 .f32) (harg7 : arg7.IsWhole) (arg8 : Memref sig .tc .vmem S48x384 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S48x8x32 .f32) (harg11 : arg11.IsWhole) (arg12 : Memref sig .tc .vmem S8x1536 .f32) (harg12 : arg12.IsWhole) (arg13 : Memref sig .tc .vmem S384x48 .f32) (harg13 : arg13.IsWhole) (hc0 : ¬cond0_0 i)
    (x0 : Vec F S96x1536 .fp8e4m3) (x1 : Vec F S1x1536 .f32) (x2 : Vec F S8x300x96 .fp8e4m3) (x3 : Vec F S8x300x1 .f32) (x4 : Vec F S384 .i32) (x5 : Vec F S48x1 .i32) (x6 : Vec F S48x8 .f32) (xs : Vec F S384x48 .f32) :
    Σ' (L10 : List (View.Piece (Elt F) S48x8x32 .f32)) (LS0 : List (View.Piece (Elt F) S8x1536 .f32)), { LS1 : List (View.Piece (Elt F) S384x48 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg11 fullShare d) ∗ (∃ d, owns (c : Thread nD τ) arg12 fullShare d) ∗ owns (c : Thread nD τ) arg13 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ arg13.view.loc (c : Thread nD τ) ↦[arg13.view.set]{fullShare} arg13.view.writes (Elt F) (harg13.unread xs) LS1) -∗ K ⟨⟩))
          ⊢ wp frame (wpE (defs₀ (F := F)) Variants.none c none) E (cc0_maxsim i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc0_maxsim_eq_skeleton]; unfold cc0_maxsim_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d10, %f10, -, H10⟩, ⟨%dS0, %fS0, -, HS0⟩, ⟨%fS1, %hfS1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg13.eq_unread hfS1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H10]; · iexists _; iexact H10
    isplitl [HS0]; · iexists _; iexact HS0
    iexact HS1

end Cert.KernelIdeal.Body

end
-- ==== Proof.RunB.lean ====
/-
  The body of the kernel run at the last grid point.
-/
module

public import proofs.«01_k».proof.Proof.RunA

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run is a large term
set_option maxHeartbeats 8000000 in
/-- The body at the last point: the same, and the three result blocks that are stored only there are written too. -/
def runB (c : Dev nD) (i : grid0.Coords) (arg1 : Memref sig .tc .vmem S96x1536 .fp8e4m3) (harg1 : arg1.IsWhole) (arg2 : Memref sig .tc .vmem S1x1536 .f32) (harg2 : arg2.IsWhole) (arg3 : Memref sig .tc .vmem S8x300x96 .fp8e4m3) (harg3 : arg3.IsWhole) (arg4 : Memref sig .tc .vmem S8x300x1 .f32) (harg4 : arg4.IsWhole) (arg5 : Memref sig .tc .smem S384 .i32) (harg5 : arg5.IsWhole) (arg6 : Memref sig .tc .vmem S48x1 .i32) (harg6 : arg6.IsWhole) (arg7 : Memref sig .tc .vmem S48x8 .f32) (harg7 : arg7.IsWhole) (arg8 : Memref sig .tc .vmem S48x384 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S48x8x32 .f32) (harg11 : arg11.IsWhole) (arg12 : Memref sig .tc .vmem S8x1536 .f32) (harg12 : arg12.IsWhole) (arg13 : Memref sig .tc .vmem S384x48 .f32) (harg13 : arg13.IsWhole) (hc0 : cond0_0 i)
    (x0 : Vec F S96x1536 .fp8e4m3) (x1 : Vec F S1x1536 .f32) (x2 : Vec F S8x300x96 .fp8e4m3) (x3 : Vec F S8x300x1 .f32) (x4 : Vec F S384 .i32) (x5 : Vec F S48x1 .i32) (x6 : Vec F S48x8 .f32) (xs : Vec F S384x48 .f32) :
    Σ' (L7 : List (View.Piece (Elt F) S48x384 .f32)) (L8 : List (View.Piece (Elt F) S48x1 .f32)) (L9 : List (View.Piece (Elt F) S48x1 .f32)) (L10 : List (View.Piece (Elt F) S48x8x32 .f32)) (LS0 : List (View.Piece (Elt F) S8x1536 .f32)), { LS1 : List (View.Piece (Elt F) S384x48 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xs
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ f, arg8.view.loc (c : Thread nD τ) ↦[arg8.view.set]{fullShare} arg8.view.writes (Elt F) f L7) ∗ (∃ f, arg9.view.loc (c : Thread nD τ) ↦[arg9.view.set]{fullShare} arg9.view.writes (Elt F) f L8) ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f LS0) ∗ arg13.view.loc (c : Thread nD τ) ↦[arg13.view.set]{fullShare} arg13.view.writes (Elt F) (harg13.unread xs) LS1) -∗ K ⟨⟩))
          ⊢ wp frame (wpE (defs₀ (F := F)) Variants.none c none) E (cc0_maxsim i arg1 harg1 arg2 harg2 arg3 harg3 arg4 harg4 arg5 harg5 arg6 harg6 arg7 harg7 arg8 harg8 arg9 harg9 arg10 harg10 arg11 harg11 arg12 harg12 arg13 harg13) K } := by
  refine ⟨?_, ?_, ?_, ?_, ?_, ?_, fun E K => ?run⟩
  case run =>
    simp only [cc0_maxsim_eq_skeleton]; unfold cc0_maxsim_skel
    simp only [k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%dS0, %fS0, -, HS0⟩, ⟨%fS1, %hfS1, HS1⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg13.eq_unread hfS1
    sl_exec (disch := first | sl_exact hc0)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]; · iexists _; iexact H7
    isplitl [H8]; · iexists _; iexact H8
    isplitl [H9]; · iexists _; iexact H9
    isplitl [H10]; · iexists _; iexact H10
    isplitl [HS0]; · iexists _; iexact HS0
    iexact HS1

end Cert.KernelIdeal.Body

end
-- ==== Proof.Tile.lean ====
/-
  One tile of the kernel's maxima: what the payload of one store into the maxima's scratch buffer holds at a lane, over
  the extended reals.
-/
module

public import proofs.«01_k».proof.Proof.Gen.KernelIdeal.Skeleton
public import proofs.«01_k».proof.Proof.Spec
public import Idealize.ShloMosaic.Lib.MatmulPlain
public import Idealize.ShloMosaic.Lib.KernelVsHost
public import Idealize.ShloMosaic.Lib.Pipeline.Value

@[expose] public section

set_option maxRecDepth 16384

noncomputable section

namespace Cert.KernelIdeal.Body

open Cert.KernelIdeal.Gen Cert.MaxSim
open Idealize.ShloMosaic Idealize.ShloMosaic.ValueIdx

/-- Lane `n` of the tile of maxima for one document against 256 query tokens. -/
theorem tile_apply (v1 : FVec Ideal S96x256 .fp8e4m3) (d : Vec Ideal S1x300x96 .fp8e4m3) (ds : Vec Ideal S1x300x1 .f32)
    (len : BitVec 32) (z : Fin 1) (n : Fin 256) :
    k0_pay17 (F := Ideal) v1 d ds len (ix2 z n)
      = maxOf fun s : Fin 300 => tokenScore (∑ k : Fin 96, d (ix3 0 s k) * v1 (ix2 k n)) (ds (ix3 0 s 0)) s.val len := by
  unfold k0_pay17
  dsimp only
  rw [shapeCast_self, shapeCast_apply _ _ (ix2 z n) (ix1 n) (by
    rw [Shape.rowMajor_val_one, Shape.rowMajor_val_two]
    show n.val = z.val * 256 + n.val
    omega)]
  refine (maxRed0_apply _ reduces_S300x256_S256 (.inl rfl) rfl n).trans ?_
  refine congrArg maxOf (funext fun s => ?_)
  show Scalar.select _ _ _ = Scalar.select _ _ _
  rw [mulf_apply, colBcast_apply _ _ (by decide), colBcast_apply _ _ (by decide)]
  rw [shapeCast_self]
  rw [shapeCast_apply ds _ (ix2 s (0 : Fin 1)) (ix3 0 s 0) (by
    rw [Shape.rowMajor_val_two, Shape.rowMajor_val_three]
    show (0 * 300 + s.val) * 1 + 0 = s.val * 1 + 0
    omega)]
  have hm : matmul (φ₁ := .fp8e4m3) dot_S300x96_S96x256_S300x256_1_0_0_1_n_n none (shapeCast S300x96 d shapeCasts_S1x300x96_S300x96) v1
      (constant S300x256 .f32 0x00000000#32) (ix2 s n) = ∑ k : Fin 96, d (ix3 0 s k) * v1 (ix2 k n) := by
    refine (Ideal.matmul_plain_apply none _ _ _ s n).trans ?_
    rw [constant_apply, Ideal.ofBits_zero_f32, zero_add]
    refine Finset.sum_congr rfl fun k _ => ?_
    rw [shapeCast_apply d _ (ix2 s k) (ix3 0 s k) (by
      rw [Shape.rowMajor_val_two, Shape.rowMajor_val_three]
      show (0 * 300 + s.val) * 96 + k.val = s.val * 96 + k.val
      omega)]
  rw [hm]
  unfold cmpi
  rw [iota_single_apply]
  rfl

end Cert.KernelIdeal.Body
-- ==== Proof.Acc.lean ====
/-
  The maxima's scratch buffer after the forty-eight tile stores of one grid point: every entry is the masked maximum over
  a document's tokens.
-/
module

public import proofs.«01_k».proof.Proof.RunB
public import proofs.«01_k».proof.Proof.Tile
public import Idealize.ShloMosaic.Lib.Pipeline.ValueKit.Tiles

@[expose] public section

set_option maxRecDepth 16384

noncomputable section

namespace Cert.KernelIdeal.Body

open Cert.KernelIdeal.Gen Cert.MaxSim
open Idealize.ShloMosaic Idealize.ShloMosaic.TcCoe Idealize.ShloMosaic.ValueIdx
open Idealize.SL Idealize.SL.RA Idealize.SL.BI Idealize.SL.Sem

/-- The maximum for document `w` of the point's eight, against query token `n`, from the staged blocks. -/
def accAt (i : grid0.Coords) (x0 : Vec Ideal S96x1536 .fp8e4m3) (x2 : Vec Ideal S8x300x96 .fp8e4m3) (x3 : Vec Ideal S8x300x1 .f32)
    (x4 : Vec Ideal S384 .i32) (w : Fin 8) (n : Fin 1536) : EReal :=
  maxOf fun s : Fin 300 => tokenScore (∑ k : Fin 96, x2 (ix3 w s k) * x0 (ix2 k n)) (x3 (ix3 w s 0)) s.val
    (x4 (ix1 ⟨8 * (i 0).val + w.val, by have h : (i 0).val < 48 := (i 0).isLt; have := w.isLt; omega⟩))

/-- The same as the contents of the scratch buffer. -/
def accG (i : grid0.Coords) (x0 : Vec Ideal S96x1536 .fp8e4m3) (x2 : Vec Ideal S8x300x96 .fp8e4m3) (x3 : Vec Ideal S8x300x1 .f32)
    (x4 : Vec Ideal S384 .i32) : S8x1536.Idx → EReal := fun y => accAt i x0 x2 x3 x4 (y 0) (y 1)

variable (c : Dev nD) (i : grid0.Coords) (arg1 : Memref sig .tc .vmem S96x1536 .fp8e4m3) (harg1 : arg1.IsWhole) (arg2 : Memref sig .tc .vmem S1x1536 .f32) (harg2 : arg2.IsWhole) (arg3 : Memref sig .tc .vmem S8x300x96 .fp8e4m3) (harg3 : arg3.IsWhole) (arg4 : Memref sig .tc .vmem S8x300x1 .f32) (harg4 : arg4.IsWhole) (arg5 : Memref sig .tc .smem S384 .i32) (harg5 : arg5.IsWhole) (arg6 : Memref sig .tc .vmem S48x1 .i32) (harg6 : arg6.IsWhole) (arg7 : Memref sig .tc .vmem S48x8 .f32) (harg7 : arg7.IsWhole) (arg8 : Memref sig .tc .vmem S48x384 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S48x8x32 .f32) (harg11 : arg11.IsWhole) (arg12 : Memref sig .tc .vmem S8x1536 .f32) (harg12 : arg12.IsWhole) (arg13 : Memref sig .tc .vmem S384x48 .f32) (harg13 : arg13.IsWhole) (x0 : Vec Ideal S96x1536 .fp8e4m3) (x1 : Vec Ideal S1x1536 .f32) (x2 : Vec Ideal S8x300x96 .fp8e4m3) (x3 : Vec Ideal S8x300x1 .f32) (x4 : Vec Ideal S384 .i32) (x5 : Vec Ideal S48x1 .i32) (x6 : Vec Ideal S48x8 .f32) (xs : Vec Ideal S384x48 .f32)

/-- The payload stored for document `w` at lanes from `o` on is the buffer's contents at the place it is stored. -/
theorem tile_at (w : Nat) (hw : w < 8) (o : Nat) (io : ∀ a, (![0, o] : Fin 2 → Nat) a + S96x256.size a ≤ S96x1536.size a)
    (iw3 : ∀ a, (![w, 0, 0] : Fin 3 → Nat) a + S1x300x96.size a ≤ S8x300x96.size a)
    (iw4 : ∀ a, (![w, 0, 0] : Fin 3 → Nat) a + S1x300x1.size a ≤ S8x300x1.size a)
    (h5 : 0 < S1.numel)
    (ia : ∀ a, (![w, o] : Fin 2 → Nat) a + S1x256.size a ≤ S8x1536.size a)
    (p : FVec Ideal S1x256 .f32)
    (hp : p = k0_pay17 (F := Ideal) (k0_pay13 (View.readAt (Elt Ideal) arg1.view (Rect.unit (s := S96x1536) ![0, o] S96x256.size io).toLoadRect (harg1.unread x0)))
          (View.readAt (Elt Ideal) arg3.view (Rect.unit (s := S8x300x96) ![w, 0, 0] S1x300x96.size iw3).toLoadRect (harg3.unread x2))
          (View.readAt (Elt Ideal) arg4.view (Rect.unit (s := S8x300x1) ![w, 0, 0] S1x300x1.size iw4).toLoadRect (harg4.unread x3))
          (View.readAt (Elt Ideal) arg5.view (Rect.unit (s := S384) (k0_off1 i (BitVec.ofNat 32 w)) S1.size (k0_off1_inb i ⟨w, hw⟩)).toLoadRect (harg5.unread x4) (Shape.Idx.first h5)))
    (x : (Rect.unit (s := S8x1536) ![w, o] S1x256.size ia).shape.Idx) :
    p x = accG i x0 x2 x3 x4 ((Rect.unit (s := S8x1536) ![w, o] S1x256.size ia).emb x) := by
  refine Eq.symm ?_
  rw [hp, show ∀ v : Vec Ideal S96x256 .fp8e4m3, k0_pay13 v = v from fun v => shapeCast_self v _]
  simp only [View.readAt_eq_ld, harg1.read_unread, harg3.read_unread, harg4.read_unread, harg5.read_unread]
  have hn : o + (x 1).val < 1536 := by
    have := ia 1
    have h1 : (x 1).val < 256 := (x 1).isLt
    change o + 256 ≤ 1536 at this; omega
  have e : accG i x0 x2 x3 x4 ((Rect.unit (s := S8x1536) ![w, o] S1x256.size ia).emb x) = accAt i x0 x2 x3 x4 ⟨w, hw⟩ ⟨o + (x 1).val, hn⟩ := by
    have hz : (x 0).val < 1 := (x 0).isLt
    unfold accG
    congr 1
    · exact Fin.ext ((Rect.idx_unit_val (s := S8x1536) ![w, o] S1x256.size ia x 0).trans (by show w + (x 0).val = w; omega))
    · exact Fin.ext (Rect.idx_unit_val (s := S8x1536) ![w, o] S1x256.size ia x 1)
  rw [e]
  clear e
  obtain ⟨z, n, rfl⟩ : ∃ (z : Fin 1) (n : Fin 256), x = ix2 z n := ⟨x 0, x 1, eq_ix2 x⟩
  refine Eq.trans ?_ (tile_apply _ _ _ _ z n).symm
  unfold accAt
  refine congrArg maxOf (funext fun s => ?_)
  congr 1
  · refine Finset.sum_congr rfl fun k _ => ?_
    congr 1
    · exact (View.ld_unit_apply_of x2 _ _ iw3 (ix3 0 s k) (ix3 ⟨w, hw⟩ s k) (by
        intro a; match a with
        | ⟨0, _⟩ => rfl
        | ⟨1, _⟩ => exact (Nat.zero_add _).symm
        | ⟨2, _⟩ => exact (Nat.zero_add _).symm)).symm
    · exact (View.ld_unit_apply_of x0 _ _ io (ix2 k n) (ix2 k ⟨o + n.val, hn⟩) (by
        intro a; match a with
        | ⟨0, _⟩ => exact (Nat.zero_add _).symm
        | ⟨1, _⟩ => rfl)).symm
  · exact (View.ld_unit_apply_of x3 _ _ iw4 (ix3 0 s 0) (ix3 ⟨w, hw⟩ s 0) (by
        intro a; match a with
        | ⟨0, _⟩ => rfl
        | ⟨1, _⟩ => exact (Nat.zero_add _).symm
        | ⟨2, _⟩ => rfl)).symm
  · refine (View.ld_unit_apply_of x4 _ _ (k0_off1_inb i ⟨w, hw⟩) (Shape.Idx.first h5) (ix1 ⟨8 * (i 0).val + w, _⟩) (by
        intro a; match a with
        | ⟨0, _⟩ =>
          have hf : (Shape.Idx.first h5 0).val < 1 := (Shape.Idx.first h5 0).isLt
          have ho : k0_off1 i (BitVec.ofNat 32 w) 0 = 8 * (i 0).val + w := congrFun (k0_off1_eq i ⟨w, hw⟩) 0
          show 8 * (i 0).val + w = k0_off1 i (BitVec.ofNat 32 w) 0 + (Shape.Idx.first h5 0).val
          omega)).symm

/-- Two zero offsets. -/
theorem hz2 : (![0, 0] : Fin 2 → Nat) = fun _ => 0 := by decide

-- forty-eight stores, each compared with one lemma
set_option maxHeartbeats 4000000 in
/-- What the forty-eight stores of a point before the last hold. -/
theorem accA_pieces : ∀ p ∈ runA.sl.HS0_48 c i arg1 harg1 arg3 harg3 arg4 harg4 arg5 harg5 x0 x2 x3 x4,
    ∀ x : p.1.shape.Idx, p.2 x = accG i x0 x2 x3 x4 (p.1.emb x) := by
  unfold runA.sl.HS0_48
  simp only [List.forall_mem_cons]
  repeat (refine ⟨tile_at i arg1 harg1 arg3 harg3 arg4 harg4 arg5 harg5 x0 x2 x3 x4 _ (by decide) _ (by decide) (by decide) (by decide) (by decide) (by decide) _ ?h, ?_⟩; case h => rfl)
  exact fun _ h => absurd h List.not_mem_nil

/-- They cover the buffer. -/
theorem accA_cover (y : S8x1536.Idx) : ∃ p ∈ runA.sl.HS0_48 (F := Ideal) c i arg1 harg1 arg3 harg3 arg4 harg4 arg5 harg5 x0 x2 x3 x4, y ∈ p.1.set :=
  View.cover_of_tiledL _ ![1, 256] (by sl_kernel_rfl) y

/-- So the whole buffer read back is the maxima. -/
theorem accA_read : runA.sl.v1116 c i arg1 harg1 arg3 harg3 arg4 harg4 arg5 harg5 arg12 x0 x2 x3 x4 = accG i x0 x2 x3 x4 := by
  unfold runA.sl.v1116
  rw [View.readCov_eq_canon_ld _ _ _ (accA_cover c i arg1 harg1 arg3 harg3 arg4 harg4 arg5 harg5 x0 x2 x3 x4), View.ld_unit_zero hz2]
  funext y
  exact View.canon_apply_of_pieces _ _ (accA_pieces c i arg1 harg1 arg3 harg3 arg4 harg4 arg5 harg5 x0 x2 x3 x4) y (accA_cover c i arg1 harg1 arg3 harg3 arg4 harg4 arg5 harg5 x0 x2 x3 x4 y)

-- forty-eight stores, each compared with one lemma
set_option maxHeartbeats 4000000 in
/-- What the forty-eight stores of the last point hold. -/
theorem accB_pieces : ∀ p ∈ runB.sl.HS0_48 c i arg1 harg1 arg3 harg3 arg4 harg4 arg5 harg5 x0 x2 x3 x4,
    ∀ x : p.1.shape.Idx, p.2 x = accG i x0 x2 x3 x4 (p.1.emb x) := by
  unfold runB.sl.HS0_48
  simp only [List.forall_mem_cons]
  repeat (refine ⟨tile_at i arg1 harg1 arg3 harg3 arg4 harg4 arg5 harg5 x0 x2 x3 x4 _ (by decide) _ (by decide) (by decide) (by decide) (by decide) (by decide) _ ?h, ?_⟩; case h => rfl)
  exact fun _ h => absurd h List.not_mem_nil

/-- They cover the buffer. -/
theorem accB_cover (y : S8x1536.Idx) : ∃ p ∈ runB.sl.HS0_48 (F := Ideal) c i arg1 harg1 arg3 harg3 arg4 harg4 arg5 harg5 x0 x2 x3 x4, y ∈ p.1.set :=
  View.cover_of_tiledL _ ![1, 256] (by sl_kernel_rfl) y

/-- So the whole buffer read back is the maxima. -/
theorem accB_read : runB.sl.v1116 c i arg1 harg1 arg3 harg3 arg4 harg4 arg5 harg5 arg12 x0 x2 x3 x4 = accG i x0 x2 x3 x4 := by
  unfold runB.sl.v1116
  rw [View.readCov_eq_canon_ld _ _ _ (accB_cover c i arg1 harg1 arg3 harg3 arg4 harg4 arg5 harg5 x0 x2 x3 x4), View.ld_unit_zero hz2]
  funext y
  exact View.canon_apply_of_pieces _ _ (accB_pieces c i arg1 harg1 arg3 harg3 arg4 harg4 arg5 harg5 x0 x2 x3 x4) y (accB_cover c i arg1 harg1 arg3 harg3 arg4 harg4 arg5 harg5 x0 x2 x3 x4 y)

end Cert.KernelIdeal.Body
-- ==== Proof.Rows.lean ====
/-
  The token maxima's block and the eight rows of scores of one grid point.
-/
module

public import proofs.«01_k».proof.Proof.Acc

@[expose] public section

set_option maxRecDepth 16384

noncomputable section

namespace Cert.KernelIdeal.Body

open Cert.KernelIdeal.Gen Cert.MaxSim
open Idealize.ShloMosaic Idealize.ShloMosaic.TcCoe Idealize.ShloMosaic.ValueIdx
open Idealize.SL Idealize.SL.RA Idealize.SL.BI Idealize.SL.Sem

/-- The token maximum times the query token's scale. -/
def tmAt (i : grid0.Coords) (x0 : Vec Ideal S96x1536 .fp8e4m3) (x1 : Vec Ideal S1x1536 .f32) (x2 : Vec Ideal S8x300x96 .fp8e4m3)
    (x3 : Vec Ideal S8x300x1 .f32) (x4 : Vec Ideal S384 .i32) (b : Fin 48) (w : Fin 8) (l : Fin 32) : EReal :=
  accAt i x0 x2 x3 x4 w ⟨32 * b.val + l.val, by omega⟩ * x1 (ix2 0 ⟨32 * b.val + l.val, by omega⟩)

/-- The same as the contents of the block. -/
def tmG (i : grid0.Coords) (x0 : Vec Ideal S96x1536 .fp8e4m3) (x1 : Vec Ideal S1x1536 .f32) (x2 : Vec Ideal S8x300x96 .fp8e4m3)
    (x3 : Vec Ideal S8x300x1 .f32) (x4 : Vec Ideal S384 .i32) : S48x8x32.Idx → EReal :=
  fun y => tmAt i x0 x1 x2 x3 x4 (y 0) (y 1) (y 2)

/-- The score of document `w` of the point's eight against query `b`. -/
def scoreAt (i : grid0.Coords) (x0 : Vec Ideal S96x1536 .fp8e4m3) (x1 : Vec Ideal S1x1536 .f32) (x2 : Vec Ideal S8x300x96 .fp8e4m3)
    (x3 : Vec Ideal S8x300x1 .f32) (x4 : Vec Ideal S384 .i32) (w : Fin 8) (b : Fin 48) : EReal :=
  ∑ l : Fin 32, tmAt i x0 x1 x2 x3 x4 b w l

/-- The maxima times the scales, at a document and a query token. -/
theorem scaled_apply (acc : Vec Ideal S8x1536 .f32) (q : Vec Ideal S1x1536 .f32) (w : Fin 8) (n : Fin 1536) :
    k0_pay103 (F := Ideal) acc q (ix2 w n) = acc (ix2 w n) * q (ix2 0 n) := by
  unfold k0_pay103
  rw [mulf_apply, shapeCast_self]
  congr 1
  exact broadcastTo_apply _ _ _ _ (by
    intro a; match a with
    | ⟨0, _⟩ => rfl
    | ⟨1, _⟩ => rfl)

/-- The lanes of query `b`, taken out of all lanes. -/
theorem lanes_apply (v : Vec Ideal S8x1536 .f32) (b : Fin 48) (hs : S8x1536.Slices ![0, 32 * b.val] S8x32) (w : Fin 8) (l : Fin 32) :
    extractStridedSlice S8x32 ![0, 32 * b.val] v hs (ix2 w l) = v (ix2 w ⟨32 * b.val + l.val, by omega⟩) := by
  refine congrArg v (funext fun a => ?_)
  match a with
  | ⟨0, _⟩ => exact Fin.ext (Nat.zero_add _)
  | ⟨1, _⟩ => rfl

/-- The scales read back through their window. -/
theorem q_read (arg2 : Memref sig .tc .vmem S1x1536 .f32) (harg2 : arg2.IsWhole) (x1 : Vec Ideal S1x1536 .f32) :
    View.readAt (Elt Ideal) arg2.view (Rect.unit (s := S1x1536) ![0, 0] S1x1536.size inb_S1x1536_S1x1536_0_0).toLoadRect (harg2.unread x1) = x1 := by
  rw [View.readAt_eq_ld, harg2.read_unread, View.ld_unit_zero hz2]

variable (c : Dev nD) (i : grid0.Coords) (arg1 : Memref sig .tc .vmem S96x1536 .fp8e4m3) (harg1 : arg1.IsWhole) (arg2 : Memref sig .tc .vmem S1x1536 .f32) (harg2 : arg2.IsWhole) (arg3 : Memref sig .tc .vmem S8x300x96 .fp8e4m3) (harg3 : arg3.IsWhole) (arg4 : Memref sig .tc .vmem S8x300x1 .f32) (harg4 : arg4.IsWhole) (arg5 : Memref sig .tc .smem S384 .i32) (harg5 : arg5.IsWhole) (arg6 : Memref sig .tc .vmem S48x1 .i32) (harg6 : arg6.IsWhole) (arg7 : Memref sig .tc .vmem S48x8 .f32) (harg7 : arg7.IsWhole) (arg8 : Memref sig .tc .vmem S48x384 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S48x8x32 .f32) (harg11 : arg11.IsWhole) (arg12 : Memref sig .tc .vmem S8x1536 .f32) (harg12 : arg12.IsWhole) (arg13 : Memref sig .tc .vmem S384x48 .f32) (harg13 : arg13.IsWhole) (x0 : Vec Ideal S96x1536 .fp8e4m3) (x1 : Vec Ideal S1x1536 .f32) (x2 : Vec Ideal S8x300x96 .fp8e4m3) (x3 : Vec Ideal S8x300x1 .f32) (x4 : Vec Ideal S384 .i32) (x5 : Vec Ideal S48x1 .i32) (x6 : Vec Ideal S48x8 .f32) (xs : Vec Ideal S384x48 .f32)

/-- The payload stored for query `b` is the block's contents at the place it is stored. -/
theorem tm_at (b : Nat) (hb : b < 48) (hs : S8x1536.Slices ![0, 32 * b] S8x32)
    (hc : S8x32.ShapeCasts S1x8x32)
    (ia : ∀ a, (![b, 0, 0] : Fin 3 → Nat) a + S1x8x32.size a ≤ S48x8x32.size a)
    (acc : Vec Ideal S8x1536 .f32) (hacc : acc = accG i x0 x2 x3 x4) (q : Vec Ideal S1x1536 .f32) (hq : q = x1)
    (p : FVec Ideal S1x8x32 .f32)
    (hp : p = shapeCast S1x8x32 (extractStridedSlice S8x32 ![0, 32 * b] (k0_pay103 acc q) hs) hc)
    (x : (Rect.unit (s := S48x8x32) ![b, 0, 0] S1x8x32.size ia).shape.Idx) :
    p x = tmG i x0 x1 x2 x3 x4 ((Rect.unit (s := S48x8x32) ![b, 0, 0] S1x8x32.size ia).emb x) := by
  subst hacc hq hp
  have e : tmG i x0 q x2 x3 x4 ((Rect.unit (s := S48x8x32) ![b, 0, 0] S1x8x32.size ia).emb x) = tmAt i x0 q x2 x3 x4 ⟨b, hb⟩ (x 1) (x 2) := by
    have hz : (x 0).val < 1 := (x 0).isLt
    unfold tmG
    congr 1
    · exact Fin.ext ((Rect.idx_unit_val (s := S48x8x32) ![b, 0, 0] S1x8x32.size ia x 0).trans (by show b + (x 0).val = b; omega))
    · exact Fin.ext ((Rect.idx_unit_val (s := S48x8x32) ![b, 0, 0] S1x8x32.size ia x 1).trans (Nat.zero_add _))
    · exact Fin.ext ((Rect.idx_unit_val (s := S48x8x32) ![b, 0, 0] S1x8x32.size ia x 2).trans (Nat.zero_add _))
  rw [e]
  clear e
  obtain ⟨z, w, l, rfl⟩ : ∃ (z : Fin 1) (w : Fin 8) (l : Fin 32), x = ix3 z w l := ⟨x 0, x 1, x 2, eq_ix3 x⟩
  refine (shapeCast_apply _ hc (ix3 z w l) (ix2 w l) (by
    rw [Shape.rowMajor_val_two, Shape.rowMajor_val_three]
    show w.val * 32 + l.val = (z.val * 8 + w.val) * 32 + l.val
    omega)).trans ?_
  refine (lanes_apply _ ⟨b, hb⟩ hs w l).trans ?_
  exact scaled_apply _ _ _ _

/-- The eight rows of scores, made of forty-eight columns of lane sums laid side by side. -/
def rowsOf (acc : Vec Ideal S8x1536 .f32) (q : Vec Ideal S1x1536 .f32) : FVec Ideal S8x48 .f32 :=
  concatenate S8x48 1 (List.ofFn fun b : Fin 48 => (⟨S8x1, shapeCast S8x1 (multiReduction .add [1] S8
    (extractStridedSlice S8x32 ![0, 32 * b.val] (k0_pay103 acc q) (by revert b; decide)) 0x00000000#32 reduces_S8x32_S8 (.inl rfl) rfl)
    shapeCasts_S8_S8x1⟩ : (s : Shape) × (s.Idx → EReal))) concatenates_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x1_S8x48_d1

/-- They are the scores. -/
theorem rows_apply (acc : Vec Ideal S8x1536 .f32) (hacc : acc = accG i x0 x2 x3 x4) (q : Vec Ideal S1x1536 .f32) (hq : q = x1)
    (w : Fin 8) (b : Fin 48) : rowsOf acc q (ix2 w b) = scoreAt i x0 x1 x2 x3 x4 w b := by
  subst hacc hq
  unfold rowsOf
  refine (concatenate_ofFn_unit_apply (t := S8x48) (s₁ := S8x1) 1 _ _ rfl rfl (ix2 w b) b rfl (ix2 w 0) (by
    intro a ha
    match a with
    | ⟨0, _⟩ => rfl
    | ⟨1, _⟩ => exact absurd rfl ha)).trans ?_
  rw [colCast_apply]
  refine (addRed1_apply _ reduces_S8x32_S8 (.inl rfl) rfl w).trans ?_
  refine Finset.sum_congr rfl fun l _ => ?_
  refine (lanes_apply _ b _ w l).trans ?_
  exact scaled_apply _ _ _ _

-- forty-eight stores, each compared with one lemma
set_option maxHeartbeats 4000000 in
/-- What the stores into the token maxima's block hold. -/
theorem tmA_pieces (hc0 : ¬ cond0_0 i) : ∀ p ∈ (runA (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs).1,
    ∀ x : p.1.shape.Idx, p.2 x = tmG i x0 x1 x2 x3 x4 (p.1.emb x) := by
  unfold runA
  simp only [List.forall_mem_cons]
  repeat (refine ⟨tm_at i x0 x1 x2 x3 x4 _ (by decide) (by decide) (by decide) (by decide) (runA.sl.v1116 c i arg1 harg1 arg3 harg3 arg4 harg4 arg5 harg5 arg12 x0 x2 x3 x4) (accA_read c i arg1 harg1 arg3 harg3 arg4 harg4 arg5 harg5 arg12 x0 x2 x3 x4) (View.readAt (Elt Ideal) arg2.view (Rect.unit (s := S1x1536) ![0, 0] S1x1536.size inb_S1x1536_S1x1536_0_0).toLoadRect (harg2.unread x1)) (q_read arg2 harg2 x1) _ ?h, ?_⟩; case h => rfl)
  exact fun _ h => absurd h List.not_mem_nil

-- the list's rectangles are read off the run
set_option maxHeartbeats 4000000 in
/-- They cover the block. -/
theorem tmA_cover (hc0 : ¬ cond0_0 i) (y : S48x8x32.Idx) : ∃ p ∈ (runA (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs).1, y ∈ p.1.set :=
  View.cover_of_tiledL _ ![1, 8, 32] (by sl_kernel_rfl) y

-- forty-eight lane sums side by side
set_option maxHeartbeats 4000000 in
/-- The point's eight rows of scores. -/
theorem rowA_apply (w : Fin 8) (b : Fin 48) : runA.sl.r_101 c i arg1 harg1 arg2 harg2 arg3 harg3 arg4 harg4 arg5 harg5 arg12 x0 x1 x2 x3 x4 (ix2 w b) = scoreAt i x0 x1 x2 x3 x4 w b := by
  refine Eq.trans ?_ (rows_apply i x0 x1 x2 x3 x4 (runA.sl.v1116 c i arg1 harg1 arg3 harg3 arg4 harg4 arg5 harg5 arg12 x0 x2 x3 x4) (accA_read c i arg1 harg1 arg3 harg3 arg4 harg4 arg5 harg5 arg12 x0 x2 x3 x4) (View.readAt (Elt Ideal) arg2.view (Rect.unit (s := S1x1536) ![0, 0] S1x1536.size inb_S1x1536_S1x1536_0_0).toLoadRect (harg2.unread x1)) (q_read arg2 harg2 x1) w b)
  refine congrFun ?_ (ix2 w b)
  rfl

-- forty-eight stores, each compared with one lemma
set_option maxHeartbeats 4000000 in
/-- What the stores into the token maxima's block hold. -/
theorem tmB_pieces (hc0 : cond0_0 i) : ∀ p ∈ (runB (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs).2.2.2.1,
    ∀ x : p.1.shape.Idx, p.2 x = tmG i x0 x1 x2 x3 x4 (p.1.emb x) := by
  unfold runB
  simp only [List.forall_mem_cons]
  repeat (refine ⟨tm_at i x0 x1 x2 x3 x4 _ (by decide) (by decide) (by decide) (by decide) (runB.sl.v1116 c i arg1 harg1 arg3 harg3 arg4 harg4 arg5 harg5 arg12 x0 x2 x3 x4) (accB_read c i arg1 harg1 arg3 harg3 arg4 harg4 arg5 harg5 arg12 x0 x2 x3 x4) (View.readAt (Elt Ideal) arg2.view (Rect.unit (s := S1x1536) ![0, 0] S1x1536.size inb_S1x1536_S1x1536_0_0).toLoadRect (harg2.unread x1)) (q_read arg2 harg2 x1) _ ?h, ?_⟩; case h => rfl)
  exact fun _ h => absurd h List.not_mem_nil

-- the list's rectangles are read off the run
set_option maxHeartbeats 4000000 in
/-- They cover the block. -/
theorem tmB_cover (hc0 : cond0_0 i) (y : S48x8x32.Idx) : ∃ p ∈ (runB (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs).2.2.2.1, y ∈ p.1.set :=
  View.cover_of_tiledL _ ![1, 8, 32] (by sl_kernel_rfl) y

-- forty-eight lane sums side by side
set_option maxHeartbeats 4000000 in
/-- The point's eight rows of scores. -/
theorem rowB_apply (w : Fin 8) (b : Fin 48) : runB.sl.r_101 c i arg1 harg1 arg2 harg2 arg3 harg3 arg4 harg4 arg5 harg5 arg12 x0 x1 x2 x3 x4 (ix2 w b) = scoreAt i x0 x1 x2 x3 x4 w b := by
  refine Eq.trans ?_ (rows_apply i x0 x1 x2 x3 x4 (runB.sl.v1116 c i arg1 harg1 arg3 harg3 arg4 harg4 arg5 harg5 arg12 x0 x2 x3 x4) (accB_read c i arg1 harg1 arg3 harg3 arg4 harg4 arg5 harg5 arg12 x0 x2 x3 x4) (View.readAt (Elt Ideal) arg2.view (Rect.unit (s := S1x1536) ![0, 0] S1x1536.size inb_S1x1536_S1x1536_0_0).toLoadRect (harg2.unread x1)) (q_read arg2 harg2 x1) w b)
  refine congrFun ?_ (ix2 w b)
  rfl

end Cert.KernelIdeal.Body
-- ==== Proof.Last.lean ====
/-
  What the last grid point makes of the scores: the transposed scores, the cross entropy and the divergence of the two
  groups of logits, at an index, over the extended reals.
-/
module

public import proofs.«01_k».proof.Proof.Gen.KernelIdeal.Skeleton
public import proofs.«01_k».proof.Proof.Spec

@[expose] public section

set_option maxRecDepth 16384

noncomputable section

namespace Cert.KernelIdeal.Body

open Cert.KernelIdeal.Gen Cert.MaxSim
open Idealize.ShloMosaic Idealize.ShloMosaic.ValueIdx

/-- The transposed scores. -/
theorem transposed_apply (s : Vec Ideal S384x48 .f32) (b : Fin 48) (j : Fin 384) : k0_pay2 (F := Ideal) s (ix2 b j) = s (ix2 j b) := by
  unfold k0_pay2
  exact transpose_apply _ _ _ _ _ (by
    intro a
    match a with
    | ⟨0, _⟩ => rfl
    | ⟨1, _⟩ => rfl)

/-- A comparison for equality chooses like the equation. -/
theorem select_eq {α : Type} (x y : BitVec 32) (a b : α) : Scalar.select (IntOp.cmpi .eq x y) a b = if x = y then a else b := by
  unfold Scalar.select IntOp.cmpi
  by_cases h : x = y
  · simp [h]
  · have : (x == y) = false := by simpa using h
    simp [h, this]

/-- The sum of a row of which all lanes but one are replaced by zero is that lane. -/
theorem pick_apply (v : FVec Ideal S48x384 .f32) (x y : IVec S48x384 32) (b : Fin 48) (z : Fin 1) (p : Fin 384)
    (h : ∀ j : Fin 384, x (ix2 b j) = y (ix2 b j) ↔ j = p) :
    shapeCast S48x1 (multiReduction .add [1] S48 (select (cmpi .eq x y) v (broadcast S48x384 (Scalar.ofBits (F := Ideal) .f32 0x00000000#32)))
      0x00000000#32 reduces_S48x384_S48 (.inl rfl) rfl) shapeCasts_S48_S48x1 (ix2 b z) = v (ix2 b p) := by
  rw [colCast_apply]
  refine (addRed1_apply _ reduces_S48x384_S48 (.inl rfl) rfl b).trans ?_
  have e : ∀ j : Fin 384, select (cmpi .eq x y) v (broadcast S48x384 (Scalar.ofBits (F := Ideal) .f32 0x00000000#32)) (ix2 b j)
      = if j = p then v (ix2 b j) else 0 := by
    intro j
    show Scalar.select (IntOp.cmpi .eq (x (ix2 b j)) (y (ix2 b j))) (v (ix2 b j)) (Ideal.ofBits .f32 0x00000000#32) = _
    rw [select_eq, Ideal.ofBits_zero_f32]
    by_cases hj : j = p
    · rw [if_pos hj, if_pos ((h j).mpr hj)]
    · rw [if_neg hj, if_neg fun hh => hj ((h j).mp hh)]
  rw [Finset.sum_congr rfl fun j _ => e j]
  rw [Finset.sum_ite_eq']
  simp

/-- `log ∑ exp` of a row, as the kernel spells it. -/
def lseCol {N : Nat} (v : FVec Ideal ⟨2, ![48, N]⟩ .f32) (h : Shape.Reduces ⟨2, ![48, N]⟩ [1] S48) (hb : S48x1.Broadcasts ⟨2, ![48, N]⟩) :
    FVec Ideal S48x1 .f32 :=
  log (shapeCast S48x1 (multiReduction .add [1] S48 (exp (subf v (broadcastTo ⟨2, ![48, N]⟩ (shapeCast S48x1
    (multiReduction .maximumf [1] S48 v 0xFF800000#32 h (.inl rfl) rfl) shapeCasts_S48_S48x1) hb)))
    0x00000000#32 h (.inl rfl) rfl) shapeCasts_S48_S48x1)

/-- A row less its maximum. -/
theorem shifted_apply {N : Nat} (v : FVec Ideal ⟨2, ![48, N]⟩ .f32) (h : Shape.Reduces ⟨2, ![48, N]⟩ [1] S48) (hb : S48x1.Broadcasts ⟨2, ![48, N]⟩)
    (b : Fin 48) (k : Fin N) :
    subf v (broadcastTo ⟨2, ![48, N]⟩ (shapeCast S48x1 (multiReduction .maximumf [1] S48 v 0xFF800000#32 h (.inl rfl) rfl) shapeCasts_S48_S48x1) hb) (ix2 b k)
      = v (ix2 b k) - maxOf fun k : Fin N => v (ix2 b k) := by
  rw [subf_apply, colBcast_apply _ _ (by decide), colCast_apply]
  refine congrArg (v (ix2 b k) - ·) ?_
  exact maxRed1_apply v h _ _ b

/-- The logarithm of the sum of a shifted row's exponentials. -/
theorem lseCol_apply {N : Nat} (v : FVec Ideal ⟨2, ![48, N]⟩ .f32) (h : Shape.Reduces ⟨2, ![48, N]⟩ [1] S48) (hb : S48x1.Broadcasts ⟨2, ![48, N]⟩)
    (b : Fin 48) (z : Fin 1) :
    lseCol v h hb (ix2 b z) = FloatOps.log (F := Ideal) (φ := .f32) (∑ k : Fin N, FloatOps.exp (F := Ideal) (φ := .f32) (v (ix2 b k) - maxOf fun k : Fin N => v (ix2 b k))) := by
  unfold lseCol
  show FloatOps.log (F := Ideal) (φ := .f32) _ = _
  refine congrArg _ ?_
  rw [colCast_apply]
  refine (addRed1_apply _ h (.inl rfl) rfl b).trans ?_
  refine Finset.sum_congr rfl fun k _ => ?_
  show FloatOps.exp (F := Ideal) (φ := .f32) _ = _
  refine congrArg _ ?_
  exact shifted_apply v h hb b k

/-- The cross entropy of a row of scores. -/
theorem ce_apply (s : Vec Ideal S384x48 .f32) (pos : Vec Ideal S48x1 .i32) (b : Fin 48) (z : Fin 1) (p : Fin 384)
    (hp : pos (ix2 b 0) = BitVec.ofNat 32 p.val) :
    k0_pay3 (F := Ideal) s pos (ix2 b z) = lse (fun j : Fin 384 => s (ix2 j b)) - s (ix2 p b) := by
  have e1 := lseCol_apply (k0_pay2 (F := Ideal) s) reduces_S48x384_S48 broadcasts_S48x1_S48x384 b z
  have e2 := pick_apply (k0_pay2 (F := Ideal) s) (iota .tc S48x384 32 [1] iota_S48x384_d1_w32)
    (broadcastTo S48x384 (shapeCast S48x1 pos shapeCasts_S48x1_S48x1) broadcasts_S48x1_S48x384) b z p (by
      intro j
      rw [iota_single_apply, colBcast_apply _ _ (by decide), shapeCast_self, hp]
      constructor
      · intro h
        have := congrArg BitVec.toNat h
        have hj : ((ix2 b j : S48x384.Idx) 1).val = j.val := rfl
        rw [hj] at this
        have h1 := j.isLt; have h2 := p.isLt
        simp only [BitVec.toNat_ofNat] at this
        exact Fin.ext (by omega)
      · rintro rfl; rfl)
  have e3 : shapeCast S48x1 (multiReduction .maximumf [1] S48 (k0_pay2 (F := Ideal) s) 0xFF800000#32 reduces_S48x384_S48 (.inl rfl) rfl)
      shapeCasts_S48_S48x1 (ix2 b z) = maxOf fun j : Fin 384 => k0_pay2 (F := Ideal) s (ix2 b j) := by
    rw [colCast_apply]
    exact maxRed1_apply _ reduces_S48x384_S48 _ _ b
  have e : k0_pay3 (F := Ideal) s pos (ix2 b z) = (lseCol (k0_pay2 (F := Ideal) s) reduces_S48x384_S48 broadcasts_S48x1_S48x384 (ix2 b z)
      + shapeCast S48x1 (multiReduction .maximumf [1] S48 (k0_pay2 (F := Ideal) s) 0xFF800000#32 reduces_S48x384_S48 (.inl rfl) rfl)
        shapeCasts_S48_S48x1 (ix2 b z))
      - shapeCast S48x1 (multiReduction .add [1] S48 (select (cmpi .eq (iota .tc S48x384 32 [1] iota_S48x384_d1_w32)
          (broadcastTo S48x384 (shapeCast S48x1 pos shapeCasts_S48x1_S48x1) broadcasts_S48x1_S48x384)) (k0_pay2 (F := Ideal) s)
          (broadcast S48x384 (Scalar.ofBits (F := Ideal) .f32 0x00000000#32)))
          0x00000000#32 reduces_S48x384_S48 (.inl rfl) rfl) shapeCasts_S48_S48x1 (ix2 b z) := rfl
  rw [e, e1, e2, e3]
  simp only [transposed_apply]
  rfl

/-- Column `w` of a query's own group of scores, as the kernel spells it. -/
def grp (s : Vec Ideal S384x48 .f32) (w : Fin 8) : FVec Ideal S48x1 .f32 :=
  shapeCast S48x1 (multiReduction .add [1] S48 (select (cmpi .eq (iota .tc S48x384 32 [1] iota_S48x384_d1_w32)
    (addi (muli (iota .tc S48x384 32 [0] iota_S48x384_d0_w32) (broadcast S48x384 8#32)) (broadcast S48x384 (BitVec.ofNat 32 w.val))))
    (k0_pay2 (F := Ideal) s) (broadcast S48x384 (Scalar.ofBits (F := Ideal) .f32 0x00000000#32)))
    0x00000000#32 reduces_S48x384_S48 (.inl rfl) rfl) shapeCasts_S48_S48x1

/-- It is the score of document `8 b + w` against query `b`. -/
theorem grp_apply (s : Vec Ideal S384x48 .f32) (w : Fin 8) (b : Fin 48) (z : Fin 1) :
    grp s w (ix2 b z) = s (ix2 ⟨8 * b.val + w.val, by omega⟩ b) := by
  unfold grp
  refine (pick_apply _ _ _ b z ⟨8 * b.val + w.val, by omega⟩ fun j => ?_).trans (transposed_apply s b _)
  show iota .tc S48x384 32 [1] iota_S48x384_d1_w32 (ix2 b j) = iota .tc S48x384 32 [0] iota_S48x384_d0_w32 (ix2 b j) * 8#32 + BitVec.ofNat 32 w.val ↔ _
  rw [iota_single_apply, iota_single_apply]
  show BitVec.ofNat 32 j.val = BitVec.ofNat 32 b.val * 8#32 + BitVec.ofNat 32 w.val ↔ _
  have h1 := j.isLt; have h2 := b.isLt; have h3 := w.isLt
  constructor
  · intro h
    have := congrArg BitVec.toNat h
    simp only [BitVec.toNat_ofNat, BitVec.toNat_add, BitVec.toNat_mul] at this
    exact Fin.ext (by show j.val = 8 * b.val + w.val; omega)
  · intro h
    have hv : j.val = 8 * b.val + w.val := congrArg Fin.val h
    apply BitVec.eq_of_toNat_eq
    simp only [BitVec.toNat_ofNat, BitVec.toNat_add, BitVec.toNat_mul]
    omega

/-- The eight columns side by side. -/
def group (s : Vec Ideal S384x48 .f32) : FVec Ideal S48x8 .f32 :=
  concatenate S48x8 1 (List.ofFn fun w : Fin 8 => (⟨S48x1, grp s w⟩ : (s : Shape) × (s.Idx → EReal)))
    concatenates_S48x1_S48x1_S48x1_S48x1_S48x1_S48x1_S48x1_S48x1_S48x8_d1

/-- They are the query's own eight scores. -/
theorem group_apply (s : Vec Ideal S384x48 .f32) (b : Fin 48) (w : Fin 8) :
    group s (ix2 b w) = s (ix2 ⟨8 * b.val + w.val, by omega⟩ b) := by
  unfold group
  refine (concatenate_ofFn_unit_apply (t := S48x8) (s₁ := S48x1) 1 _ _ rfl rfl (ix2 b w) w rfl (ix2 b 0) (by
    intro a ha
    match a with
    | ⟨0, _⟩ => rfl
    | ⟨1, _⟩ => exact absurd rfl ha)).trans ?_
  exact grp_apply s w b 0

/-- The logarithm of the softmax of rows of eight, as the kernel spells it. -/
def logSm (v : FVec Ideal S48x8 .f32) : FVec Ideal S48x8 .f32 :=
  subf (subf v (broadcastTo S48x8 (shapeCast S48x1 (multiReduction .maximumf [1] S48 v 0xFF800000#32 reduces_S48x8_S48 (.inl rfl) rfl)
    shapeCasts_S48_S48x1) broadcasts_S48x1_S48x8)) (broadcastTo S48x8 (lseCol v reduces_S48x8_S48 broadcasts_S48x1_S48x8) broadcasts_S48x1_S48x8)

theorem logSm_apply (v : FVec Ideal S48x8 .f32) (b : Fin 48) (w : Fin 8) :
    logSm v (ix2 b w) = logSoftmax (fun k : Fin 8 => v (ix2 b k)) w := by
  unfold logSm
  rw [subf_apply, colBcast_apply _ _ (by decide), lseCol_apply]
  exact congrArg (· - _) (shifted_apply v reduces_S48x8_S48 broadcasts_S48x1_S48x8 b w)

/-- The divergence of two arrays of rows of eight, as the kernel spells it. -/
def klCol (t g : FVec Ideal S48x8 .f32) : FVec Ideal S48x1 .f32 :=
  shapeCast S48x1 (multiReduction .add [1] S48 (mulf (exp (logSm t)) (subf (logSm t) (logSm g)))
    0x00000000#32 reduces_S48x8_S48 (.inl rfl) rfl) shapeCasts_S48_S48x1

theorem klCol_apply (t g : FVec Ideal S48x8 .f32) (b : Fin 48) (z : Fin 1) :
    klCol t g (ix2 b z) = kl (fun k : Fin 8 => t (ix2 b k)) (fun k : Fin 8 => g (ix2 b k)) := by
  unfold klCol
  rw [colCast_apply]
  refine (addRed1_apply _ reduces_S48x8_S48 (.inl rfl) rfl b).trans ?_
  refine Finset.sum_congr rfl fun k _ => ?_
  rw [mulf_apply, subf_apply, logSm_apply, logSm_apply]
  refine congrArg (· * _) ?_
  show FloatOps.exp (F := Ideal) (φ := .f32) _ = _
  rw [logSm_apply]

/-- The divergence as the last point stores it. -/
theorem klPay_eq (s : Vec Ideal S384x48 .f32) (t : Vec Ideal S48x8 .f32) :
    k0_pay11 (F := Ideal) (k0_pay2 s) (iota .tc S48x384 32 [1] iota_S48x384_d1_w32) (iota .tc S48x384 32 [0] iota_S48x384_d0_w32)
      (k0_pay4 s) (k0_pay5 s)
      (k0_pay6 (k0_pay2 s) (iota .tc S48x384 32 [1] iota_S48x384_d1_w32) (iota .tc S48x384 32 [0] iota_S48x384_d0_w32))
      (k0_pay7 (k0_pay2 s) (iota .tc S48x384 32 [1] iota_S48x384_d1_w32) (iota .tc S48x384 32 [0] iota_S48x384_d0_w32))
      (k0_pay8 (k0_pay2 s) (iota .tc S48x384 32 [1] iota_S48x384_d1_w32) (iota .tc S48x384 32 [0] iota_S48x384_d0_w32))
      (k0_pay9 (k0_pay2 s) (iota .tc S48x384 32 [1] iota_S48x384_d1_w32) (iota .tc S48x384 32 [0] iota_S48x384_d0_w32))
      (k0_pay10 (iota .tc S48x384 32 [1] iota_S48x384_d1_w32) (iota .tc S48x384 32 [0] iota_S48x384_d0_w32))
      (Scalar.ofBits .f32 0x00000000#32) t
      = klCol t (group s) := rfl

end Cert.KernelIdeal.Body
-- ==== Proof.Point.lean ====
/-
  What one grid point leaves: the scores' scratch buffer, and at the last point the three result blocks.
-/
module

public import proofs.«01_k».proof.Proof.Rows
public import proofs.«01_k».proof.Proof.Last
public import Idealize.ShloMosaic.Lib.WritesUnit

@[expose] public section

set_option maxRecDepth 16384

noncomputable section

namespace Cert.KernelIdeal.Body

open Cert.KernelIdeal.Gen Cert.MaxSim
open Idealize.ShloMosaic Idealize.ShloMosaic.TcCoe Idealize.ShloMosaic.ValueIdx
open Idealize.SL Idealize.SL.RA Idealize.SL.BI Idealize.SL.Sem

/-- The scores' buffer after the point: its eight rows replaced. -/
def newS (i : grid0.Coords) (x0 : Vec Ideal S96x1536 .fp8e4m3) (x1 : Vec Ideal S1x1536 .f32) (x2 : Vec Ideal S8x300x96 .fp8e4m3)
    (x3 : Vec Ideal S8x300x1 .f32) (x4 : Vec Ideal S384 .i32) (xs : Vec Ideal S384x48 .f32) : Vec Ideal S384x48 .f32 := fun y =>
  if h : 8 * (i 0).val ≤ (y 0).val ∧ (y 0).val < 8 * (i 0).val + 8 then
    scoreAt i x0 x1 x2 x3 x4 ⟨(y 0).val - 8 * (i 0).val, by omega⟩ (y 1) else xs y

variable (c : Dev nD) (i : grid0.Coords) (arg1 : Memref sig .tc .vmem S96x1536 .fp8e4m3) (harg1 : arg1.IsWhole) (arg2 : Memref sig .tc .vmem S1x1536 .f32) (harg2 : arg2.IsWhole) (arg3 : Memref sig .tc .vmem S8x300x96 .fp8e4m3) (harg3 : arg3.IsWhole) (arg4 : Memref sig .tc .vmem S8x300x1 .f32) (harg4 : arg4.IsWhole) (arg5 : Memref sig .tc .smem S384 .i32) (harg5 : arg5.IsWhole) (arg6 : Memref sig .tc .vmem S48x1 .i32) (harg6 : arg6.IsWhole) (arg7 : Memref sig .tc .vmem S48x8 .f32) (harg7 : arg7.IsWhole) (arg8 : Memref sig .tc .vmem S48x384 .f32) (harg8 : arg8.IsWhole) (arg9 : Memref sig .tc .vmem S48x1 .f32) (harg9 : arg9.IsWhole) (arg10 : Memref sig .tc .vmem S48x1 .f32) (harg10 : arg10.IsWhole) (arg11 : Memref sig .tc .vmem S48x8x32 .f32) (harg11 : arg11.IsWhole) (arg12 : Memref sig .tc .vmem S8x1536 .f32) (harg12 : arg12.IsWhole) (arg13 : Memref sig .tc .vmem S384x48 .f32) (harg13 : arg13.IsWhole) (x0 : Vec Ideal S96x1536 .fp8e4m3) (x1 : Vec Ideal S1x1536 .f32) (x2 : Vec Ideal S8x300x96 .fp8e4m3) (x3 : Vec Ideal S8x300x1 .f32) (x4 : Vec Ideal S384 .i32) (x5 : Vec Ideal S48x1 .i32) (x6 : Vec Ideal S48x8 .f32) (xs : Vec Ideal S384x48 .f32)

/-- One store of eight rows into the scores' buffer, read back. -/
theorem store_rows (hoff : ∀ a, k0_off2 i a + (![8, 48] : Fin 2 → Nat) a ≤ S384x48.size a) (p : FVec Ideal S8x48 .f32)
    (hp : ∀ (w : Fin 8) (b : Fin 48), p (ix2 w b) = scoreAt i x0 x1 x2 x3 x4 w b) :
    arg13.view.read (Elt Ideal) (arg13.view.writes (Elt Ideal) (harg13.unread xs) [⟨Rect.unit (s := S384x48) (k0_off2 i) ![8, 48] hoff, k0_pay1 p⟩])
      = newS i x0 x1 x2 x3 x4 xs := by
  funext y
  obtain ⟨r, b, rfl⟩ : ∃ (r : Fin 384) (b : Fin 48), y = ix2 r b := ⟨y 0, y 1, eq_ix2 y⟩
  have e : k0_pay1 (F := Ideal) p = p := shapeCast_self p _
  rw [e]
  by_cases h : 8 * (i 0).val ≤ r.val ∧ r.val < 8 * (i 0).val + 8
  · have hw : r.val - 8 * (i 0).val < 8 := by omega
    refine (View.read_writes_cons_rows_of_mem (Val := Elt Ideal) arg13.view (harg13.unread xs) hoff p [] (ix2 r b) (ix2 ⟨r.val - 8 * (i 0).val, hw⟩ b : S8x48.Idx) (k0_off2_eq i) ?_ rfl).trans ?_
    · show r.val = 8 * (i 0).val + (r.val - 8 * (i 0).val)
      omega
    · refine (hp ⟨r.val - 8 * (i 0).val, hw⟩ b).trans ?_
      unfold newS
      split
      · rfl
      · rename_i h'; exact absurd h h'
  · refine (View.read_writes_cons_rows_of_not_mem (Val := Elt Ideal) (W := 8) arg13.view (harg13.unread xs) hoff p [] (ix2 r b) (k0_off2_eq i) rfl ?_).trans ?_
    · show r.val < 8 * (i 0).val ∨ 8 * (i 0).val + 8 ≤ r.val
      omega
    · refine (congrFun (harg13.read_unread xs) (ix2 r b)).trans ?_
      unfold newS
      split
      · rename_i h'; exact absurd h' h
      · rfl

/-- The scores' buffer after a point before the last. -/
theorem scoresA (hc0 : ¬ cond0_0 i) : arg13.view.read (Elt Ideal) (arg13.view.writes (Elt Ideal) (harg13.unread xs) (runA (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs).2.2.1)
    = newS i x0 x1 x2 x3 x4 xs := by
  unfold runA
  exact store_rows i arg13 harg13 x0 x1 x2 x3 x4 xs _ _ fun w b =>
    rowA_apply c i arg1 harg1 arg2 harg2 arg3 harg3 arg4 harg4 arg5 harg5 arg12 x0 x1 x2 x3 x4 w b

/-- The scores' buffer after the last point. -/
theorem scoresB (hc0 : cond0_0 i) : arg13.view.read (Elt Ideal) (arg13.view.writes (Elt Ideal) (harg13.unread xs) (runB (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs).2.2.2.2.2.1)
    = newS i x0 x1 x2 x3 x4 xs := by
  unfold runB
  exact store_rows i arg13 harg13 x0 x1 x2 x3 x4 xs _ _ fun w b =>
    rowB_apply c i arg1 harg1 arg2 harg2 arg3 harg3 arg4 harg4 arg5 harg5 arg12 x0 x1 x2 x3 x4 w b

/-- The buffer the last point reads the scores from. -/
theorem lastRead : runB.sl.v1419 c i arg1 harg1 arg2 harg2 arg3 harg3 arg4 harg4 arg5 harg5 arg12 arg13 harg13 x0 x1 x2 x3 x4 xs = newS i x0 x1 x2 x3 x4 xs := by
  unfold runB.sl.v1419
  rw [View.readAt_eq_ld, View.ld_unit_zero hz2]
  unfold runB.sl.HS1_1
  exact store_rows i arg13 harg13 x0 x1 x2 x3 x4 xs _ _ fun w b =>
    rowB_apply c i arg1 harg1 arg2 harg2 arg3 harg3 arg4 harg4 arg5 harg5 arg12 x0 x1 x2 x3 x4 w b

/-- The token maxima's block after a point before the last. -/
theorem tmA (hc0 : ¬ cond0_0 i) (f : arg11.view.ty.Contents (Elt Ideal)) :
    arg11.view.read (Elt Ideal) (arg11.view.writes (Elt Ideal) f (runA (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs).1) = tmG i x0 x1 x2 x3 x4 := by
  funext y
  exact View.read_writes_apply_of_pieces _ _ (tmG i x0 x1 x2 x3 x4) _ (tmA_pieces c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 xs hc0) y (tmA_cover c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 xs hc0 y)

/-- The token maxima's block after the last point. -/
theorem tmB (hc0 : cond0_0 i) (f : arg11.view.ty.Contents (Elt Ideal)) :
    arg11.view.read (Elt Ideal) (arg11.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs).2.2.2.1) = tmG i x0 x1 x2 x3 x4 := by
  funext y
  exact View.read_writes_apply_of_pieces _ _ (tmG i x0 x1 x2 x3 x4) _ (tmB_pieces c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 xs hc0) y (tmB_cover c i arg1 harg1 arg2 harg2 arg3 harg3 arg4 harg4 arg5 harg5 arg6 harg6 arg7 harg7 arg8 harg8 arg9 harg9 arg10 harg10 arg11 harg11 arg12 harg12 arg13 harg13 x0 x1 x2 x3 x4 x5 x6 xs hc0 y)

/-- A window of positions or of teacher scores read whole. -/
theorem pos_read : View.readAt (Elt Ideal) arg6.view (Rect.unit (s := S48x1) ![0, 0] S48x1.size inb_S48x1_S48x1_0_0).toLoadRect (harg6.unread x5) = x5 := by
  rw [View.readAt_eq_ld, harg6.read_unread, View.ld_unit_zero hz2]

theorem teacher_read : View.readAt (Elt Ideal) arg7.view (Rect.unit (s := S48x8) ![0, 0] S48x8.size inb_S48x8_S48x8_0_0).toLoadRect (harg7.unread x6) = x6 := by
  rw [View.readAt_eq_ld, harg7.read_unread, View.ld_unit_zero hz2]

/-- A block stored whole by one store. -/
theorem read_one {s : Shape} {e : EltTy} {κ : Kind} {sp : Space} (v : View sig κ sp s e) (f : v.ty.Contents (Elt Ideal)) (off : Fin s.rank → Nat) (hz : off = fun _ => 0)
    (inb : ∀ a, off a + s.size a ≤ s.size a) (p : s.Idx → Elt Ideal e) :
    v.read (Elt Ideal) (v.writes (Elt Ideal) f [⟨Rect.unit (s := s) off s.size inb, p⟩]) = p := by
  funext y
  exact View.read_writes_cons_unit_of_mem v f inb p [] y y hz fun a => (Nat.zero_add _).symm

/-- The scores' result block after the last point. -/
theorem outB7 (hc0 : cond0_0 i) (f : arg8.view.ty.Contents (Elt Ideal)) :
    arg8.view.read (Elt Ideal) (arg8.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs).1) = k0_pay2 (newS i x0 x1 x2 x3 x4 xs) := by
  unfold runB
  refine (read_one arg8.view f _ hz2 _ _).trans ?_
  exact congrArg (k0_pay2 (F := Ideal)) (lastRead c i arg1 harg1 arg2 harg2 arg3 harg3 arg4 harg4 arg5 harg5 arg12 arg13 harg13 x0 x1 x2 x3 x4 xs)

/-- The divergence's result block after the last point. -/
theorem outB9 (hc0 : cond0_0 i) (f : arg10.view.ty.Contents (Elt Ideal)) :
    arg10.view.read (Elt Ideal) (arg10.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs).2.2.1) = klCol x6 (group (newS i x0 x1 x2 x3 x4 xs)) := by
  unfold runB
  refine (read_one arg10.view f _ hz2 _ _).trans ?_
  rw [← lastRead c i arg1 harg1 arg2 harg2 arg3 harg3 arg4 harg4 arg5 harg5 arg12 arg13 harg13 x0 x1 x2 x3 x4 xs]
  refine Eq.trans ?_ (congrArg (fun t => klCol t _) (teacher_read arg7 harg7 x6))
  exact klPay_eq _ _

/-- The loss's result block after the last point. -/
theorem outB8 (hc0 : cond0_0 i) (f : arg9.view.ty.Contents (Elt Ideal)) :
    arg9.view.read (Elt Ideal) (arg9.view.writes (Elt Ideal) f (runB (F := Ideal) c i arg1 harg1 arg2 harg2 arg3 harg3 arg4 harg4 arg5 harg5 arg6 harg6 arg7 harg7 arg8 harg8 arg9 harg9 arg10 harg10 arg11 harg11 arg12 harg12 arg13 harg13 hc0 x0 x1 x2 x3 x4 x5 x6 xs).2.1) = addf (k0_pay3 (newS i x0 x1 x2 x3 x4 xs) x5) (klCol x6 (group (newS i x0 x1 x2 x3 x4 xs))) := by
  unfold runB
  refine (read_one arg9.view f _ hz2 _ _).trans ?_
  rw [← lastRead c i arg1 harg1 arg2 harg2 arg3 harg3 arg4 harg4 arg5 harg5 arg12 arg13 harg13 x0 x1 x2 x3 x4 xs]
  refine Eq.trans ?_ (congrArg₂ (fun q t => addf (k0_pay3 (F := Ideal) _ q) (klCol t _)) (pos_read arg6 harg6 x5) (teacher_read arg7 harg7 x6))
  exact congrArg (addf _) (klPay_eq _ _)

end Cert.KernelIdeal.Body
-- ==== Proof.Data.lean ====
/-
  The proof data of the idealized kernel's pipeline: what its scratch buffers and its result blocks hold after every grid
  point, the body's triple there, and the run.
-/
module

public import proofs.«01_k».proof.Proof.Point
public import proofs.«01_k».proof.Proof.Gen.KernelIdeal.Frame
public import Idealize.ShloMosaic.Lib.Claim

@[expose] public section

set_option maxRecDepth 16384

noncomputable section

namespace Cert.KernelIdeal.Body

open Cert.KernelIdeal.Gen Cert.MaxSim
open Idealize.ShloMosaic Idealize.ShloMosaic.TcCoe Idealize.ShloMosaic.Tactic Idealize.ShloMosaic.ValueIdx
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- A grid point is its one coordinate. -/
theorem coord_val (t : Fin cfg0.N) : (grid0.coords t 0).val = t.val := by
  have ht : t.val < 48 := Nat.lt_of_lt_of_eq t.isLt N_0
  have e0 : (grid0.coords t 0).val = t.val / 1 % 48 := Pipeline.Grid.coords_val t 0 (by decide) rfl
  omega

/-- The point that computes document `j`. -/
def pointOf (j : Fin 384) : Fin cfg0.N := ⟨j.val / 8, by rw [show cfg0.N = 48 from N_0]; omega⟩

/-- The score of document `j` against query `b`, from the blocks of the point that computes it. -/
def score (c : Dev nD) (j : Fin 384) (b : Fin 48) : EReal :=
  scoreAt (grid0.coords (pointOf j)) (iblk m c 0 (pointOf j)) (iblk m c 1 (pointOf j)) (iblk m c 2 (pointOf j)) (iblk m c 3 (pointOf j))
    (iblk m c 4 (pointOf j)) ⟨j.val % 8, by omega⟩ b

/-- All scores, as the scratch buffer holds them at the end. -/
def scores (c : Dev nD) : Vec Ideal S384x48 .f32 := fun y => score m c (y 0) (y 1)

/-- The buffer `s` holds the scores of the documents of the points before `n`. -/
def UpTo (c : Dev nD) (n : Nat) (s : Vec Ideal S384x48 .f32) : Prop :=
  ∀ (j : Fin 384) (b : Fin 48), j.val < 8 * n → s (ix2 j b) = score m c j b

/-- A point adds its own eight documents. -/
theorem newS_upTo (c : Dev nD) (t : Fin cfg0.N) (s : Vec Ideal S384x48 .f32) (hs : UpTo m c t.val s) :
    UpTo m c (t.val + 1) (newS (grid0.coords t) (iblk m c 0 t) (iblk m c 1 t) (iblk m c 2 t) (iblk m c 3 t) (iblk m c 4 t) s) := by
  intro j b hj
  have hc := coord_val t
  unfold newS
  split
  · rename_i h
    have h1 : 8 * (grid0.coords t 0).val ≤ j.val := h.1
    have h2 : j.val < 8 * (grid0.coords t 0).val + 8 := h.2
    have e : pointOf j = t := Fin.ext (by show j.val / 8 = t.val; omega)
    unfold score
    rw [e]
    congr 1
    exact Fin.ext (by show j.val - 8 * (grid0.coords t 0).val = j.val % 8; omega)
  · rename_i h
    have h' : ¬ (8 * (grid0.coords t 0).val ≤ j.val ∧ j.val < 8 * (grid0.coords t 0).val + 8) := h
    exact hs j b (by omega)

/-- After the last point the buffer holds all scores. -/
theorem newS_last (c : Dev nD) (t : Fin cfg0.N) (ht : t.val % 48 = 47) (s : Vec Ideal S384x48 .f32) (hs : UpTo m c t.val s) :
    newS (grid0.coords t) (iblk m c 0 t) (iblk m c 1 t) (iblk m c 2 t) (iblk m c 3 t) (iblk m c 4 t) s = scores m c := by
  funext y
  obtain ⟨j, b, rfl⟩ : ∃ (j : Fin 384) (b : Fin 48), y = ix2 j b := ⟨y 0, y 1, eq_ix2 y⟩
  exact newS_upTo m c t s hs j b (by have := j.isLt; omega)

/-- The three result blocks stored at the last point. -/
def out7 (c : Dev nD) : Vec Ideal S48x384 .f32 := k0_pay2 (F := Ideal) (scores m c)
def out8 (c : Dev nD) (t : Fin cfg0.N) : Vec Ideal S48x1 .f32 :=
  addf (k0_pay3 (F := Ideal) (scores m c) (iblk m c 5 t)) (klCol (iblk m c 6 t) (group (scores m c)))
def out9 (c : Dev nD) (t : Fin cfg0.N) : Vec Ideal S48x1 .f32 := klCol (iblk m c 6 t) (group (scores m c))
/-- The token maxima's block. -/
def out10 (c : Dev nD) (t : Fin cfg0.N) : Vec Ideal S48x8x32 .f32 :=
  tmG (grid0.coords t) (iblk m c 0 t) (iblk m c 1 t) (iblk m c 2 t) (iblk m c 3 t) (iblk m c 4 t)

/-- What is kept between points: the maxima's buffer at some contents, the scores' buffer with the scores so far, the
    generator register. -/
def Keep (c : Dev nD) (n : Nat) : sProp 𝕄 :=
  iprop(iprop((∃ d, owns (c : Thread nD τ) scM0_0 fullShare d) ∗ (∃ s, owns (c : Thread nD τ) scM0_1 fullShare s ∗ ⌜UpTo m c n s⌝)) ∗ (∃ r, prngReg c r))

/-- The proof data of the one pipeline on core `c`. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => out7 m c
    | ⟨8, _⟩ => out8 m c t
    | ⟨9, _⟩ => out9 m c t
    | ⟨10, _⟩ => out10 m c t
  Φ t := Keep m c t.val
  q _ := fullShare
  owed _ := 0

/-- The proof data's arrays are the region-entry contents. -/
theorem A_eq (c : Dev nD) (w : Fin cfg0.W) : (dats m 0 c).A w = V m c (Pipeline.arrRef spec0 w) := by
  dsimp only [dats]

/-! The inputs' buffers hold their blocks before and after every point. -/

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d

theorem leaves0_0 (c : Dev nD) (t : Fin cfg0.N) : (dats m 0 c).leavesExact 0 t = owns (c : Thread nD τ) (ms0_0 t) fullShare (iblk m c 0 t) := by
  unfold Dat.leavesExact; rw [liveAt0_0 t, after0_0]
theorem leaves0_1 (c : Dev nD) (t : Fin cfg0.N) : (dats m 0 c).leavesExact 1 t = owns (c : Thread nD τ) (ms0_1 t) fullShare (iblk m c 1 t) := by
  unfold Dat.leavesExact; rw [liveAt0_1 t, after0_1]
theorem leaves0_2 (c : Dev nD) (t : Fin cfg0.N) : (dats m 0 c).leavesExact 2 t = owns (c : Thread nD τ) (ms0_2 t) fullShare (iblk m c 2 t) := by
  unfold Dat.leavesExact; rw [liveAt0_2 t, after0_2]
theorem leaves0_3 (c : Dev nD) (t : Fin cfg0.N) : (dats m 0 c).leavesExact 3 t = owns (c : Thread nD τ) (ms0_3 t) fullShare (iblk m c 3 t) := by
  unfold Dat.leavesExact; rw [liveAt0_3 t, after0_3]
theorem leaves0_4 (c : Dev nD) (t : Fin cfg0.N) : (dats m 0 c).leavesExact 4 t = owns (c : Thread nD τ) (ms0_4 t) fullShare (iblk m c 4 t) := by
  unfold Dat.leavesExact; rw [liveAt0_4 t, after0_4]
theorem leaves0_5 (c : Dev nD) (t : Fin cfg0.N) : (dats m 0 c).leavesExact 5 t = owns (c : Thread nD τ) (ms0_5 t) fullShare (iblk m c 5 t) := by
  unfold Dat.leavesExact; rw [liveAt0_5 t, after0_5]
theorem leaves0_6 (c : Dev nD) (t : Fin cfg0.N) : (dats m 0 c).leavesExact 6 t = owns (c : Thread nD τ) (ms0_6 t) fullShare (iblk m c 6 t) := by
  unfold Dat.leavesExact; rw [liveAt0_6 t, after0_6]

/-- The three late results are idle before the last point, -/
theorem idle_of (t : Fin cfg0.N) (h : ¬ t.val % 48 = 47) : (!(k0_cond1 (grid0.coords t) == 1#1)) = true := by
  have : ¬ k0_cond1 (grid0.coords t) = 1#1 := fun hh => h ((hcond0_0 t).mp hh)
  simpa using this

/-- and live there. -/
theorem live_of (t : Fin cfg0.N) (h : t.val % 48 = 47) : (!(k0_cond1 (grid0.coords t) == 1#1)) = false := by
  have : k0_cond1 (grid0.coords t) = 1#1 := (hcond0_0 t).mpr h
  simpa using this

theorem leavesIdle0_7 (c : Dev nD) (t : Fin cfg0.N) (h : ¬ t.val % 48 = 47) : (dats m 0 c).leavesExact 7 t = iprop(∃ d, owns (c : Thread nD τ) (ms0_7 t) fullShare ((dats m 0 c).before 7 t d)) :=
  Dat.leavesExact_idle _ 7 t (idle_of t h) (Bool.eq_false_iff.mpr fun hf => h ((flush0_7 t).mp hf))
theorem leavesIdle0_8 (c : Dev nD) (t : Fin cfg0.N) (h : ¬ t.val % 48 = 47) : (dats m 0 c).leavesExact 8 t = iprop(∃ d, owns (c : Thread nD τ) (ms0_8 t) fullShare ((dats m 0 c).before 8 t d)) :=
  Dat.leavesExact_idle _ 8 t (idle_of t h) (Bool.eq_false_iff.mpr fun hf => h ((flush0_8 t).mp hf))
theorem leavesIdle0_9 (c : Dev nD) (t : Fin cfg0.N) (h : ¬ t.val % 48 = 47) : (dats m 0 c).leavesExact 9 t = iprop(∃ d, owns (c : Thread nD τ) (ms0_9 t) fullShare ((dats m 0 c).before 9 t d)) :=
  Dat.leavesExact_idle _ 9 t (idle_of t h) (Bool.eq_false_iff.mpr fun hf => h ((flush0_9 t).mp hf))

theorem leavesLast0_7 (c : Dev nD) (t : Fin cfg0.N) (h : t.val % 48 = 47) : (dats m 0 c).leavesExact 7 t = owns (c : Thread nD τ) (ms0_7 t) fullShare (out7 m c) := by
  unfold Dat.leavesExact; rw [show cfg0.idle 7 (cfg0.grid.coords t) = false from live_of t h, show (dats m 0 c).after 7 t = out7 m c from by dsimp only [dats]]
theorem leavesLast0_8 (c : Dev nD) (t : Fin cfg0.N) (h : t.val % 48 = 47) : (dats m 0 c).leavesExact 8 t = owns (c : Thread nD τ) (ms0_8 t) fullShare (out8 m c t) := by
  unfold Dat.leavesExact; rw [show cfg0.idle 8 (cfg0.grid.coords t) = false from live_of t h, show (dats m 0 c).after 8 t = out8 m c t from by dsimp only [dats]]
theorem leavesLast0_9 (c : Dev nD) (t : Fin cfg0.N) (h : t.val % 48 = 47) : (dats m 0 c).leavesExact 9 t = owns (c : Thread nD τ) (ms0_9 t) fullShare (out9 m c t) := by
  unfold Dat.leavesExact; rw [show cfg0.idle 9 (cfg0.grid.coords t) = false from live_of t h, show (dats m 0 c).after 9 t = out9 m c t from by dsimp only [dats]]

theorem leaves0_10 (c : Dev nD) (t : Fin cfg0.N) : (dats m 0 c).leavesExact 10 t = owns (c : Thread nD τ) (ms0_10 t) fullShare (out10 m c t) := by
  unfold Dat.leavesExact; rw [show cfg0.idle 10 (cfg0.grid.coords t) = false from rfl, show (dats m 0 c).after 10 t = out10 m c t from by dsimp only [dats]]

/-! ## The body obligation, at a generic point -/

/-- A buffer written to is owned at some contents. -/
theorem some_of_writes (c : Dev nD) (a : Memref sig .tc .vmem S8x1536 .f32) (L : List (View.Piece (Elt Ideal) S8x1536 .f32)) :
    (iprop(∃ f, a.view.loc (c : Thread nD τ) ↦[a.view.set]{fullShare} a.view.writes (Elt Ideal) f L) : sProp 𝕄)
      ⊢ iprop(∃ d, owns (c : Thread nD τ) a fullShare d) := by
  iintro ⟨%f, H⟩
  iexists (a.view.read (Elt Ideal) (a.view.writes (Elt Ideal) f L))
  unfold owns
  iexists (a.view.writes (Elt Ideal) f L)
  isplitr; · ipureintro; exact rfl
  iexact H

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t
    ∗ (dats m 0 c).leavesExact 7 t
    ∗ (dats m 0 c).leavesExact 8 t
    ∗ (dats m 0 c).leavesExact 9 t
    ∗ (dats m 0 c).leavesExact 10 t)

set_option maxHeartbeats 4000000 in
/-- The body at any point. -/
theorem sound_body (c : Dev nD) (t : Fin cfg0.N) :
    bodyPre m c t ⊢ wp frame (wpE (defs₀ (F := Ideal)) Variants.none c none) Set.univ (bodyAt0 t) (fun _ => bodyPost m c t) := by
  unfold bodyPre bodyPost bodyAt0
  simp only [before0_0, before0_1, before0_2, before0_3, before0_4, before0_5, before0_6]
  rw [show (dats m 0 c).owesAt () t.succ = (dats m 0 c).owesAt () t.castSucc from rfl]
  rw [show (dats m 0 c).Φ t.castSucc = Keep m c t.val from rfl, show (dats m 0 c).Φ t.succ = Keep m c (t.val + 1) from rfl]
  unfold Keep
  rw [leaves0_0, leaves0_1, leaves0_2, leaves0_3, leaves0_4, leaves0_5, leaves0_6, leaves0_10]
  by_cases h0 : t.val % 48 = 47
  · rw [leavesLast0_7 m c t h0, leavesLast0_8 m c t h0, leavesLast0_9 m c t h0]
    iintro ⟨⟨⟨HS0, ⟨%s, HS1, %hs⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runB (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) ((hcond0_0 t).mpr h0) (iblk m c 0 t) (iblk m c 1 t) (iblk m c 2 t) (iblk m c 3 t) (iblk m c 4 t) (iblk m c 5 t) (iblk m c 6 t) s).2.2.2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9
    isplitl [H10]; · iexists _; iexact H10
    isplitl [HS0]; · iexact HS0
    isplitl [HS1]; · iexact HS1
    iintro ⟨H0, H1, H2, H3, H4, H5, H6, H7, H8, H9, H10, HS0, HS1⟩
    isplitl [HS0 HS1 Hg]
    · isplitl [HS0 HS1]
      · isplitl [HS0]
        · iapply some_of_writes c scM0_0 _
          iexact HS0
        iexists (newS (grid0.coords t) (iblk m c 0 t) (iblk m c 1 t) (iblk m c 2 t) (iblk m c 3 t) (iblk m c 4 t) s)
        isplitl [HS1]
        · unfold owns; iexists _
          isplitr; · ipureintro; exact scoresB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) s ((hcond0_0 t).mpr h0)
          iexact HS1
        ipureintro; exact newS_upTo m c t s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]
    · icases H7 with ⟨%f7, H7⟩
      unfold owns; iexists _
      isplitr; · ipureintro; exact (outB7 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) s ((hcond0_0 t).mpr h0) f7).trans (congrArg (k0_pay2 (F := Ideal)) (newS_last m c t h0 s hs))
      iexact H7
    isplitl [H8]
    · icases H8 with ⟨%f8, H8⟩
      unfold owns; iexists _
      isplitr; · ipureintro; exact (outB8 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) s ((hcond0_0 t).mpr h0) f8).trans (congrArg (fun n => addf (k0_pay3 (F := Ideal) n (iblk m c 5 t)) (klCol (iblk m c 6 t) (group n))) (newS_last m c t h0 s hs))
      iexact H8
    isplitl [H9]
    · icases H9 with ⟨%f9, H9⟩
      unfold owns; iexists _
      isplitr; · ipureintro; exact (outB9 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) s ((hcond0_0 t).mpr h0) f9).trans (congrArg (fun n => klCol (iblk m c 6 t) (group n)) (newS_last m c t h0 s hs))
      iexact H9

    · icases H10 with ⟨%f10, H10⟩
      unfold owns; iexists _
      isplitr; · ipureintro; exact tmB c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) s ((hcond0_0 t).mpr h0) f10
      iexact H10
  · rw [leavesIdle0_7 m c t h0, leavesIdle0_8 m c t h0, leavesIdle0_9 m c t h0]
    iintro ⟨⟨⟨HS0, ⟨%s, HS1, %hs⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩⟩
    iapply ((runA (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (fun h => h0 ((hcond0_0 t).mp h)) (iblk m c 0 t) (iblk m c 1 t) (iblk m c 2 t) (iblk m c 3 t) (iblk m c 4 t) (iblk m c 5 t) (iblk m c 6 t) s).2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H10]; · iexists _; iexact H10
    isplitl [HS0]; · iexact HS0
    isplitl [HS1]; · iexact HS1
    iintro ⟨H0, H1, H2, H3, H4, H5, H6, H10, HS0, HS1⟩
    isplitl [HS0 HS1 Hg]
    · isplitl [HS0 HS1]
      · isplitl [HS0]
        · iapply some_of_writes c scM0_0 _
          iexact HS0
        iexists (newS (grid0.coords t) (iblk m c 0 t) (iblk m c 1 t) (iblk m c 2 t) (iblk m c 3 t) (iblk m c 4 t) s)
        isplitl [HS1]
        · unfold owns; iexists _
          isplitr; · ipureintro; exact scoresA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) s (fun h => h0 ((hcond0_0 t).mp h))
          iexact HS1
        ipureintro; exact newS_upTo m c t s hs
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    isplitl [H8]; · iexists _; iexact H8
    isplitl [H9]; · iexists _; iexact H9

    · icases H10 with ⟨%f10, H10⟩
      unfold owns; iexists _
      isplitr; · ipureintro; exact tmA c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) scM0_0 (Memref.isWhole_whole _) scM0_1 (Memref.isWhole_whole _) (iblk m c 0 t) (iblk m c 1 t) (iblk m c 2 t) (iblk m c 3 t) (iblk m c 4 t) (iblk m c 5 t) (iblk m c 6 t) s (fun h => h0 ((hcond0_0 t).mp h)) f10
      iexact H10

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

/-- The library's body obligation, at every point. -/
theorem body_obligation (c : Dev nD) : BodyObligation (dats m 0 c) (defs₀ (F := Ideal)) Variants.none () Set.univ := fun t => by
  rw [bigSep_W0, bigSep_W0, defs₀_row]
  exact triple_restated (sound_body m c t) rfl .rfl fun _ => .rfl

/-- The invariant is entered from the launch's, -/
theorem keep_in (c : Dev nD) : (Pipeline.ΦA spec0 c : sProp 𝕄) ⊢ (dats m 0 c).Φ 0 := by
  rw [show (dats m 0 c).Φ 0 = Keep m c 0 from rfl, PhiA0_eq]
  unfold Keep
  iintro ⟨⟨HS0, ⟨%s, HS1⟩⟩, Hg⟩
  isplitl [HS0 HS1]
  · isplitl [HS0]; · iexact HS0
    iexists s
    isplitl [HS1]; · iexact HS1
    ipureintro
    exact fun j b hj => absurd hj (Nat.not_lt_zero _)
  iexact Hg

/-- and returned to it. -/
theorem keep_out (c : Dev nD) : (dats m 0 c).Φ (Fin.last cfg0.N) ⊢ (Pipeline.ΦA spec0 c : sProp 𝕄) := by
  rw [show (dats m 0 c).Φ (Fin.last cfg0.N) = Keep m c cfg0.N from rfl, PhiA0_eq]
  unfold Keep
  iintro ⟨⟨HS0, ⟨%s, HS1, -⟩⟩, Hg⟩
  isplitl [HS0 HS1]
  · isplitl [HS0]; · iexact HS0
    iexists s
    iexact HS1
  iexact Hg

/-! ## The run and the frame -/

-- the theorem's implicit arguments are found by unifying its conclusion with this one, which takes unfolding plain
-- definitions in a metavariable's type
set_option backward.isDefEq.respectTransparency.types false in
/-- The launch: every execution terminates, the arrays end at what the proof data say, the counters at zero. -/
theorem run_main_quiescent : θ_run defs (onTc (τ := τ) (main (F := Ideal))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := keep_in m) (hout := keep_out m)

theorem run_main : θ_run defs (onTc (τ := τ) (main (F := Ideal))) (s₀ m ρ) (Pipeline.FramePost cfgs (dats m) 0 (V m)) :=
  (θ_run defs _ _).mono (fun _ h => h.1) (run_main_quiescent m ρ)

/-- The argument arrays end unchanged. -/
theorem unchanged : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  frame_of m ρ (dats m) (A_eq m) (run_main m ρ)

/-- The frame. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (unchanged m ρ) ((θ_run defs _ _).mono (fun _ h => h.2) (run_main_quiescent m ρ))

end Cert.KernelIdeal.Body
-- ==== Proof.Blocks.lean ====
/-
  The idealized kernel's input blocks in terms of the argument arrays: the host operations before the region only
  reshape, transpose and add unit axes, and a window's block is the array's part at the point.
-/
module

public import proofs.«01_k».proof.Proof.Problem
public import proofs.«01_k».proof.Proof.Data

@[expose] public section

set_option maxRecDepth 16384

noncomputable section

namespace Cert.KernelIdeal.Body

open Cert.KernelIdeal.Gen Cert.MaxSim
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ)

/-! ## The arrays when the region is entered -/

theorem V_v1 (c : Dev nD) : V m c main_v1
    = transpose S96x1536 [1, 0] (shapeCast S1536x96 (m ((c : Thread nD τ).loc main_arg0) : S48x32x96.Idx → EReal) shapeCasts_S48x32x96_S1536x96) transposes_S1536x96_S96x1536_1_0 := by
  simp only [V, hostOps0, StableHlo.after_cons, StableHlo.after_nil]
  rfl

theorem V_v2 (c : Dev nD) : V m c main_v2
    = shapeCast S1x1536 (m ((c : Thread nD τ).loc main_arg1) : S48x32.Idx → EReal) shapeCasts_S48x32_S1x1536 := by
  simp only [V, hostOps0, StableHlo.after_cons, StableHlo.after_nil]
  rfl

theorem V_v3 (c : Dev nD) : V m c main_v3
    = broadcastInDim S384x300x1 ![0, 1] bcast_S384x300_S384x300x1_0_1 (m ((c : Thread nD τ).loc main_arg3) : S384x300.Idx → EReal) := by
  simp only [V, hostOps0, StableHlo.after_cons, StableHlo.after_nil]
  rfl

theorem V_v4 (c : Dev nD) : V m c main_v4
    = broadcastInDim S48x1 ![0] bcast_S48_S48x1_0 (m ((c : Thread nD τ).loc main_arg5) : S48.Idx → BitVec 32) := by
  simp only [V, hostOps0, StableHlo.after_cons, StableHlo.after_nil]
  rfl

/-! ## Layout, at an index -/

/-- Reshaped to one row per query token, then transposed. -/
theorem tokens_apply (A : S48x32x96.Idx → EReal) (k : Fin 96) (b : Fin 48) (l : Fin 32) (n : Fin 1536) (hn : n.val = 32 * b.val + l.val) :
    transpose S96x1536 [1, 0] (shapeCast S1536x96 A shapeCasts_S48x32x96_S1536x96) transposes_S1536x96_S96x1536_1_0 (ix2 k n) = A (ix3 b l k) := by
  refine (transpose_apply _ _ _ _ (ix2 n k) fun a => ?_).trans ?_
  · match a with
    | ⟨0, _⟩ => rfl
    | ⟨1, _⟩ => rfl
  · refine shapeCast_apply _ _ _ _ ?_
    rw [Shape.rowMajor_val_three, Shape.rowMajor_val_two]
    show (b.val * 32 + l.val) * 96 + k.val = n.val * 96 + k.val
    omega

/-- One row of the query tokens' scales. -/
theorem scales_apply (A : S48x32.Idx → EReal) (z : Fin 1) (b : Fin 48) (l : Fin 32) (n : Fin 1536) (hn : n.val = 32 * b.val + l.val) :
    shapeCast S1x1536 A shapeCasts_S48x32_S1x1536 (ix2 z n) = A (ix2 b l) := by
  refine shapeCast_apply _ _ _ _ ?_
  rw [Shape.rowMajor_val_two, Shape.rowMajor_val_two]
  show b.val * 32 + l.val = z.val * 1536 + n.val
  omega

/-- The document tokens' scales with a unit axis. -/
theorem docScales_apply (A : S384x300.Idx → EReal) (j : Fin 384) (s : Fin 300) (z : Fin 1) :
    broadcastInDim S384x300x1 ![0, 1] bcast_S384x300_S384x300x1_0_1 A (ix3 j s z) = A (ix2 j s) :=
  broadcastInDim_apply _ _ _ _ _ fun a => match a with
    | ⟨0, _⟩ => (if_neg (show ¬ (384 : Nat) = 1 by decide)).symm
    | ⟨1, _⟩ => (if_neg (show ¬ (300 : Nat) = 1 by decide)).symm

/-- The queries' documents as a column. -/
theorem pos_apply (A : S48.Idx → BitVec 32) (b : Fin 48) (z : Fin 1) :
    broadcastInDim S48x1 ![0] bcast_S48_S48x1_0 A (ix2 b z) = A (ix1 b) :=
  broadcastInDim_apply _ _ _ _ _ fun a => match a with
    | ⟨0, _⟩ => (if_neg (show ¬ (48 : Nat) = 1 by decide)).symm

/-- The coordinate an index map computes from the point. -/
theorem index_val (t : Fin cfg0.N) : (BitVec.ofNat 32 (grid0.coords t 0).val).toNat = t.val := by
  have hc := coord_val t
  have h : t.val < 48 := Nat.lt_of_lt_of_eq t.isLt N_0
  rw [hc, BitVec.toNat_ofNat]
  omega

/-! ## The blocks, at an index -/

theorem iblk0_apply (c : Dev nD) (t : Fin cfg0.N) (k : Fin 96) (b : Fin 48) (l : Fin 32) (n : Fin 1536) (hn : n.val = 32 * b.val + l.val) :
    iblk m c 0 t (ix2 k n) = m ((c : Thread nD τ).loc main_arg0) (ix3 b l k) := by
  unfold iblk
  rw [View.read_apply]
  show V m c main_v1 _ = _
  rw [V_v1]
  refine (congrArg _ (?_ : _ = (ix2 k n : S96x1536.Idx))).trans (tokens_apply _ k b l n hn)
  funext a
  match a with
  | ⟨0, _⟩ => exact Fin.ext (by show win0_0.index t 0 * 96 + 1 * k.val = k.val; rw [show win0_0.index t 0 = 0 from rfl]; omega)
  | ⟨1, _⟩ => exact Fin.ext (by show win0_0.index t 1 * 1536 + 1 * n.val = n.val; rw [show win0_0.index t 1 = 0 from rfl]; omega)

theorem iblk1_apply (c : Dev nD) (t : Fin cfg0.N) (b : Fin 48) (l : Fin 32) (n : Fin 1536) (hn : n.val = 32 * b.val + l.val) :
    iblk m c 1 t (ix2 0 n) = m ((c : Thread nD τ).loc main_arg1) (ix2 b l) := by
  unfold iblk
  rw [View.read_apply]
  show V m c main_v2 _ = _
  rw [V_v2]
  refine (congrArg _ (?_ : _ = (ix2 0 n : S1x1536.Idx))).trans (scales_apply _ 0 b l n hn)
  funext a
  match a with
  | ⟨0, _⟩ => exact Fin.ext (by show win0_1.index t 0 * 1 + 1 * 0 = 0; rw [show win0_1.index t 0 = 0 from rfl])
  | ⟨1, _⟩ => exact Fin.ext (by show win0_1.index t 1 * 1536 + 1 * n.val = n.val; rw [show win0_1.index t 1 = 0 from rfl]; omega)

theorem iblk2_apply (c : Dev nD) (t : Fin cfg0.N) (w : Fin 8) (s : Fin 300) (k : Fin 96) (j : Fin 384) (hj : j.val = 8 * t.val + w.val) :
    iblk m c 2 t (ix3 w s k) = m ((c : Thread nD τ).loc main_arg2) (ix3 j s k) := by
  unfold iblk
  rw [View.read_apply]
  show V m c main_arg2 _ = _
  rw [V_main_arg2]
  refine congrArg (m ((c : Thread nD τ).loc main_arg2)) ?_
  funext a
  match a with
  | ⟨0, _⟩ => exact Fin.ext (by show win0_2.index t 0 * 8 + 1 * w.val = j.val; rw [show win0_2.index t 0 = t.val from index_val t]; omega)
  | ⟨1, _⟩ => exact Fin.ext (by show win0_2.index t 1 * 300 + 1 * s.val = s.val; rw [show win0_2.index t 1 = 0 from rfl]; omega)
  | ⟨2, _⟩ => exact Fin.ext (by show win0_2.index t 2 * 96 + 1 * k.val = k.val; rw [show win0_2.index t 2 = 0 from rfl]; omega)

theorem iblk3_apply (c : Dev nD) (t : Fin cfg0.N) (w : Fin 8) (s : Fin 300) (j : Fin 384) (hj : j.val = 8 * t.val + w.val) :
    iblk m c 3 t (ix3 w s 0) = m ((c : Thread nD τ).loc main_arg3) (ix2 j s) := by
  unfold iblk
  rw [View.read_apply]
  show V m c main_v3 _ = _
  rw [V_v3]
  refine (congrArg _ (?_ : _ = (ix3 j s 0 : S384x300x1.Idx))).trans (docScales_apply _ j s 0)
  funext a
  match a with
  | ⟨0, _⟩ => exact Fin.ext (by show win0_3.index t 0 * 8 + 1 * w.val = j.val; rw [show win0_3.index t 0 = t.val from index_val t]; omega)
  | ⟨1, _⟩ => exact Fin.ext (by show win0_3.index t 1 * 300 + 1 * s.val = s.val; rw [show win0_3.index t 1 = 0 from rfl]; omega)
  | ⟨2, _⟩ => exact Fin.ext (by show win0_3.index t 2 * 1 + 1 * 0 = 0; rw [show win0_3.index t 2 = 0 from rfl])

theorem iblk4_apply (c : Dev nD) (t : Fin cfg0.N) (j : Fin 384) :
    iblk m c 4 t (ix1 j) = m ((c : Thread nD τ).loc main_arg4) (ix1 j) := by
  unfold iblk
  rw [View.read_apply]
  show V m c main_arg4 _ = _
  rw [V_main_arg4]
  refine congrArg (m ((c : Thread nD τ).loc main_arg4)) ?_
  funext a
  match a with
  | ⟨0, _⟩ => exact Fin.ext (by show win0_4.index t 0 * 384 + 1 * j.val = j.val; rw [show win0_4.index t 0 = 0 from rfl]; omega)

theorem iblk5_apply (c : Dev nD) (t : Fin cfg0.N) (b : Fin 48) :
    iblk m c 5 t (ix2 b 0) = m ((c : Thread nD τ).loc main_arg5) (ix1 b) := by
  unfold iblk
  rw [View.read_apply]
  show V m c main_v4 _ = _
  rw [V_v4]
  refine (congrArg _ (?_ : _ = (ix2 b 0 : S48x1.Idx))).trans (pos_apply _ b 0)
  funext a
  match a with
  | ⟨0, _⟩ => exact Fin.ext (by show win0_5.index t 0 * 48 + 1 * b.val = b.val; rw [show win0_5.index t 0 = 0 from rfl]; omega)
  | ⟨1, _⟩ => exact Fin.ext (by show win0_5.index t 1 * 1 + 1 * 0 = 0; rw [show win0_5.index t 1 = 0 from rfl])

theorem iblk6_apply (c : Dev nD) (t : Fin cfg0.N) (b : Fin 48) (k : Fin 8) :
    iblk m c 6 t (ix2 b k) = m ((c : Thread nD τ).loc main_arg6) (ix2 b k) := by
  unfold iblk
  rw [View.read_apply]
  show V m c main_arg6 _ = _
  rw [V_main_arg6]
  refine congrArg (m ((c : Thread nD τ).loc main_arg6)) ?_
  funext a
  match a with
  | ⟨0, _⟩ => exact Fin.ext (by show win0_6.index t 0 * 48 + 1 * b.val = b.val; rw [show win0_6.index t 0 = 0 from rfl]; omega)
  | ⟨1, _⟩ => exact Fin.ext (by show win0_6.index t 1 * 8 + 1 * k.val = k.val; rw [show win0_6.index t 1 = 0 from rfl]; omega)

/-! ## What the body's values are over the arrays -/

/-- The token maxima of point `t`. -/
theorem tmAt_eq (c : Dev nD) (t : Fin cfg0.N) (b : Fin 48) (w : Fin 8) (l : Fin 32) (j : Fin 384) (hj : j.val = 8 * t.val + w.val) :
    tmAt (grid0.coords t) (iblk m c 0 t) (iblk m c 1 t) (iblk m c 2 t) (iblk m c 3 t) (iblk m c 4 t) b w l
      = tokenMax (m ((c : Thread nD τ).loc main_arg0)) (m ((c : Thread nD τ).loc main_arg1)) (m ((c : Thread nD τ).loc main_arg2))
          (m ((c : Thread nD τ).loc main_arg3)) (m ((c : Thread nD τ).loc main_arg4)) b j l := by
  have hc := coord_val t
  unfold tmAt tokenMax
  refine congrArg₂ (· * ·) ?_ (iblk1_apply m c t b l _ rfl)
  unfold accAt best
  refine congrArg maxOf (funext fun s => ?_)
  have e : (⟨8 * (grid0.coords t 0).val + w.val, by have := w.isLt; have h : (grid0.coords t 0).val < 48 := (grid0.coords t 0).isLt; omega⟩ : Fin 384) = j :=
    Fin.ext (by show 8 * (grid0.coords t 0).val + w.val = j.val; omega)
  rw [e, iblk3_apply m c t w s j hj, iblk4_apply m c t j]
  refine congrArg (fun d => tokenScore d _ _ _) (Finset.sum_congr rfl fun k _ => ?_)
  rw [iblk2_apply m c t w s k j hj, iblk0_apply m c t k b l _ rfl]

/-- The score of document `j`. -/
theorem score_eq (c : Dev nD) (j : Fin 384) (b : Fin 48) :
    score m c j b = docScore (m ((c : Thread nD τ).loc main_arg0)) (m ((c : Thread nD τ).loc main_arg1)) (m ((c : Thread nD τ).loc main_arg2))
          (m ((c : Thread nD τ).loc main_arg3)) (m ((c : Thread nD τ).loc main_arg4)) b j := by
  unfold score scoreAt docScore
  exact Finset.sum_congr rfl fun l _ => tmAt_eq m c (pointOf j) b _ l j (by show j.val = 8 * (j.val / 8) + j.val % 8; omega)

end Cert.KernelIdeal.Body
-- ==== Proof.Final.lean ====
/-
  What the four result arrays of the idealized kernel end holding, and the run stated of them.
-/
module

public import proofs.«01_k».proof.Proof.Blocks

@[expose] public section

set_option maxRecDepth 16384

noncomputable section

namespace Cert.KernelIdeal.Body

open Cert.KernelIdeal.Gen Cert.MaxSim
open Idealize.ShloMosaic Idealize.ShloMosaic.TcCoe Idealize.ShloMosaic.ValueIdx Idealize.SL.Sem
open Idealize.ShloMosaic.Pipeline (Dat Cfg Window)

variable (m : (ℓ : Loc nD τ sig) → Buf (Elt Ideal) ℓ) (ρ : Dev nD → PrngReg)

/-! ## The results -/

/-- The scores. -/
def resScores (c : Dev nD) : S48x384.Idx → EReal := fun y =>
  docScore (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)

/-- The losses, each query's document given by `p`. -/
def resLoss (p : Dev nD → Fin 48 → Fin 384) (c : Dev nD) : S48x1.Idx → EReal := fun y =>
  fullLoss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (y 0) (p c (y 0))

/-- The distillation losses. -/
def resKl (c : Dev nD) : S48x1.Idx → EReal := fun y =>
  klLoss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (y 0)

/-- The token maxima. -/
def resTok (c : Dev nD) : S48x384x32.Idx → EReal := fun y =>
  tokenMax (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) (y 2)

/-! ## The stored blocks, at an index -/

theorem out7_apply (c : Dev nD) (b : Fin 48) (j : Fin 384) : out7 m c (ix2 b j) = resScores m c (ix2 b j) := by
  unfold out7
  rw [transposed_apply]
  exact score_eq m c j b

theorem klCol_eq (c : Dev nD) (t : Fin cfg0.N) (b : Fin 48) (z : Fin 1) :
    klCol (iblk m c 6 t) (group (scores m c)) (ix2 b z) = resKl m c (ix2 b z) := by
  rw [klCol_apply]
  show kl _ _ = klLoss _ _ _ _ _ _ b
  unfold klLoss
  refine congrArg₂ kl (funext fun k => iblk6_apply m c t b k) (funext fun k => ?_)
  rw [group_apply]
  exact score_eq m c _ b

theorem out9_apply (c : Dev nD) (t : Fin cfg0.N) (b : Fin 48) (z : Fin 1) : out9 m c t (ix2 b z) = resKl m c (ix2 b z) :=
  klCol_eq m c t b z

theorem out8_apply (p : Dev nD → Fin 48 → Fin 384)
    (hp : ∀ (c : Dev nD) (b : Fin 48), (m ((c : Thread nD τ).loc main_arg5) : S48.Idx → BitVec 32) (ix1 b) = BitVec.ofNat 32 (p c b).val)
    (c : Dev nD) (t : Fin cfg0.N) (b : Fin 48) (z : Fin 1) : out8 m c t (ix2 b z) = resLoss m p c (ix2 b z) := by
  unfold out8
  rw [addf_apply, klCol_eq, ce_apply (scores m c) (iblk m c 5 t) b z (p c b) ((iblk5_apply m c t b).trans (hp c b))]
  show (lse (fun j : Fin 384 => score m c j b) - score m c (p c b) b) + klLoss _ _ _ _ _ _ b = fullLoss _ _ _ _ _ _ b (p c b)
  unfold fullLoss
  simp only [score_eq]

theorem out10_apply (c : Dev nD) (t : Fin cfg0.N) (b : Fin 48) (w : Fin 8) (l : Fin 32) (j : Fin 384) (hj : j.val = 8 * t.val + w.val) :
    out10 m c t (ix3 b w l) = resTok m c (ix3 b j l) :=
  tmAt_eq m c t b w l j hj

/-! ## The arrays at the end -/

/-- The last point. -/
def tLast : Fin cfg0.N := ⟨47, by rw [show cfg0.N = 48 from N_0]; decide⟩

theorem flushed7 (c : Dev nD) (t : Fin cfg0.N) :
    (dats m 0 c).flushed 7 t = ((cfg0.win 7).blk t).view.read (Elt Ideal) (resScores m c) := by
  show (cfg0.win 7).cut (grid0.coords t) ((dats m 0 c).after 7 t) = _
  rw [show (dats m 0 c).after 7 t = out7 m c from by dsimp only [dats]]
  funext y
  obtain ⟨b, j, rfl⟩ : ∃ (b : Fin 48) (j : Fin 384), y = (ix2 b j : S48x384.Idx) := ⟨y 0, y 1, eq_ix2 (n0 := 48) (n1 := 384) y⟩
  rw [View.read_apply]
  refine (out7_apply m c b j).trans (congrArg (resScores m c) ?_)
  funext a
  match a with
  | ⟨0, _⟩ => exact Fin.ext (by show b.val = win0_7.index t 0 * 48 + 1 * b.val; rw [show win0_7.index t 0 = 0 from rfl]; omega)
  | ⟨1, _⟩ => exact Fin.ext (by show j.val = win0_7.index t 1 * 384 + 1 * j.val; rw [show win0_7.index t 1 = 0 from rfl]; omega)

theorem column8 (c : Dev nD) (t : Fin cfg0.N) (G : S48x1.Idx → EReal) (o : S48x1.Idx → EReal) (h : ∀ (b : Fin 48) (z : Fin 1), o (ix2 b z) = G (ix2 b z)) :
    (o : S48x1.Idx → EReal) = ((cfg0.win 8).blk t).view.read (Elt Ideal) (G : Buf (Elt Ideal) ((c : Thread nD τ).loc main_v5_1)) := by
  funext y
  obtain ⟨b, z, rfl⟩ : ∃ (b : Fin 48) (z : Fin 1), y = (ix2 b z : S48x1.Idx) := ⟨y 0, y 1, eq_ix2 (n0 := 48) (n1 := 1) y⟩
  rw [View.read_apply]
  refine (h b z).trans (congrArg G ?_)
  funext a
  match a with
  | ⟨0, _⟩ => exact Fin.ext (by show b.val = win0_8.index t 0 * 48 + 1 * b.val; rw [show win0_8.index t 0 = 0 from rfl]; omega)
  | ⟨1, _⟩ => exact Fin.ext (by show z.val = win0_8.index t 1 * 1 + 1 * z.val; rw [show win0_8.index t 1 = 0 from rfl]; omega)

theorem flushed10 (c : Dev nD) (t : Fin cfg0.N) :
    (dats m 0 c).flushed 10 t = ((cfg0.win 10).blk t).view.read (Elt Ideal) (resTok m c) := by
  show (cfg0.win 10).cut (grid0.coords t) ((dats m 0 c).after 10 t) = _
  have ht : t.val < 48 := Nat.lt_of_lt_of_eq t.isLt N_0
  rw [show (dats m 0 c).after 10 t = out10 m c t from by dsimp only [dats]]
  funext y
  obtain ⟨b, w, l, rfl⟩ : ∃ (b : Fin 48) (w : Fin 8) (l : Fin 32), y = (ix3 b w l : S48x8x32.Idx) := ⟨y 0, y 1, y 2, eq_ix3 (n0 := 48) (n1 := 8) (n2 := 32) y⟩
  have hw := w.isLt
  rw [View.read_apply]
  refine (out10_apply m c t b w l ⟨8 * t.val + w.val, by omega⟩ rfl).trans (congrArg (resTok m c) ?_)
  funext a
  match a with
  | ⟨0, _⟩ => exact Fin.ext (by show b.val = win0_10.index t 0 * 48 + 1 * b.val; rw [show win0_10.index t 0 = 0 from rfl]; omega)
  | ⟨1, _⟩ => exact Fin.ext (by show 8 * t.val + w.val = win0_10.index t 1 * 8 + 1 * w.val; rw [show win0_10.index t 1 = t.val from index_val t]; omega)
  | ⟨2, _⟩ => exact Fin.ext (by show l.val = win0_10.index t 2 * 32 + 1 * l.val; rw [show win0_10.index t 2 = 0 from rfl]; omega)

theorem final7 (c : Dev nD) : (dats m 0 c).arrAt 7 cfg0.N = resScores m c :=
  (dats m 0 c).arrAt_eq_of_cover 7 (resScores m c) (fun t _ => flushed7 m c t) fun i => ⟨tLast, (flush0_7 tLast).mpr rfl, by
    show i ∈ ((View.whole main_v5_0).slice (win0_7.rect tLast)).set
    rw [View.set_slice_whole, Rect.mem_set_unit]
    intro a
    have h0 : (i 0 : Nat) < 48 := (i 0).isLt
    have h1 : (i 1 : Nat) < 384 := (i 1).isLt
    match a with
    | ⟨0, _⟩ => show win0_7.index (tLast) 0 * win0_7.size 0 ≤ (i 0 : Nat) ∧ (i 0 : Nat) < win0_7.index (tLast) 0 * win0_7.size 0 + win0_7.xsize (grid0.coords (tLast)) 0
                rw [show win0_7.index (tLast) 0 = 0 from rfl, show win0_7.xsize (grid0.coords (tLast)) 0 = 48 from rfl, show win0_7.size 0 = 48 from rfl]; omega
    | ⟨1, _⟩ => show win0_7.index (tLast) 1 * win0_7.size 1 ≤ (i 1 : Nat) ∧ (i 1 : Nat) < win0_7.index (tLast) 1 * win0_7.size 1 + win0_7.xsize (grid0.coords (tLast)) 1
                rw [show win0_7.index (tLast) 1 = 0 from rfl, show win0_7.xsize (grid0.coords (tLast)) 1 = 384 from rfl, show win0_7.size 1 = 384 from rfl]; omega⟩

/-- The last point's column block of the losses' array is the array. -/
theorem cover8 (i : S48x1.Idx) : i ∈ ((cfg0.win 8).blk tLast).view.set := by
    show i ∈ ((View.whole main_v5_1).slice (win0_8.rect tLast)).set
    rw [View.set_slice_whole, Rect.mem_set_unit]
    intro a
    have h0 : (i 0 : Nat) < 48 := (i 0).isLt
    have h1 : (i 1 : Nat) < 1 := (i 1).isLt
    match a with
    | ⟨0, _⟩ => show win0_8.index (tLast) 0 * win0_8.size 0 ≤ (i 0 : Nat) ∧ (i 0 : Nat) < win0_8.index (tLast) 0 * win0_8.size 0 + win0_8.xsize (grid0.coords (tLast)) 0
                rw [show win0_8.index (tLast) 0 = 0 from rfl, show win0_8.xsize (grid0.coords (tLast)) 0 = 48 from rfl, show win0_8.size 0 = 48 from rfl]; omega
    | ⟨1, _⟩ => show win0_8.index (tLast) 1 * win0_8.size 1 ≤ (i 1 : Nat) ∧ (i 1 : Nat) < win0_8.index (tLast) 1 * win0_8.size 1 + win0_8.xsize (grid0.coords (tLast)) 1
                rw [show win0_8.index (tLast) 1 = 0 from rfl, show win0_8.xsize (grid0.coords (tLast)) 1 = 1 from rfl, show win0_8.size 1 = 1 from rfl]; omega

/-- The last point's column block of the distillation losses' array is the array. -/
theorem cover9 (i : S48x1.Idx) : i ∈ ((cfg0.win 9).blk tLast).view.set := by
    show i ∈ ((View.whole main_v5_2).slice (win0_9.rect tLast)).set
    rw [View.set_slice_whole, Rect.mem_set_unit]
    intro a
    have h0 : (i 0 : Nat) < 48 := (i 0).isLt
    have h1 : (i 1 : Nat) < 1 := (i 1).isLt
    match a with
    | ⟨0, _⟩ => show win0_9.index (tLast) 0 * win0_9.size 0 ≤ (i 0 : Nat) ∧ (i 0 : Nat) < win0_9.index (tLast) 0 * win0_9.size 0 + win0_9.xsize (grid0.coords (tLast)) 0
                rw [show win0_9.index (tLast) 0 = 0 from rfl, show win0_9.xsize (grid0.coords (tLast)) 0 = 48 from rfl, show win0_9.size 0 = 48 from rfl]; omega
    | ⟨1, _⟩ => show win0_9.index (tLast) 1 * win0_9.size 1 ≤ (i 1 : Nat) ∧ (i 1 : Nat) < win0_9.index (tLast) 1 * win0_9.size 1 + win0_9.xsize (grid0.coords (tLast)) 1
                rw [show win0_9.index (tLast) 1 = 0 from rfl, show win0_9.xsize (grid0.coords (tLast)) 1 = 1 from rfl, show win0_9.size 1 = 1 from rfl]; omega

theorem final8 (p : Dev nD → Fin 48 → Fin 384)
    (hp : ∀ (c : Dev nD) (b : Fin 48), (m ((c : Thread nD τ).loc main_arg5) : S48.Idx → BitVec 32) (ix1 b) = BitVec.ofNat 32 (p c b).val)
    (c : Dev nD) : (dats m 0 c).arrAt 8 cfg0.N = resLoss m p c :=
  (dats m 0 c).arrAt_eq_of_cover 8 (resLoss m p c) (fun t _ => by
    show (cfg0.win 8).cut (grid0.coords t) ((dats m 0 c).after 8 t) = _
    rw [show (dats m 0 c).after 8 t = out8 m c t from by dsimp only [dats]]
    exact column8 c t (resLoss m p c) (out8 m c t) fun b z => out8_apply m p hp c t b z)
    fun i => ⟨tLast, (flush0_8 tLast).mpr rfl, cover8 i⟩

theorem final9 (c : Dev nD) : (dats m 0 c).arrAt 9 cfg0.N = resKl m c :=
  (dats m 0 c).arrAt_eq_of_cover 9 (resKl m c) (fun t _ => by
    show (cfg0.win 9).cut (grid0.coords t) ((dats m 0 c).after 9 t) = _
    rw [show (dats m 0 c).after 9 t = out9 m c t from by dsimp only [dats]]
    exact column8 c t (resKl m c) (out9 m c t) fun b z => out9_apply m c t b z)
    fun i => ⟨tLast, (flush0_9 tLast).mpr rfl, cover9 i⟩

theorem final10 (c : Dev nD) : (dats m 0 c).arrAt 10 cfg0.N = resTok m c :=
  (dats m 0 c).arrAt_eq_of_cover 10 (resTok m c) (fun t _ => flushed10 m c t) fun i =>
    ⟨⟨(i 1).val / 8, by rw [show cfg0.N = 48 from N_0]; have h1 : (i 1 : Nat) < 384 := (i 1).isLt; omega⟩, flush0_10 _, by
    have hN : (i 1).val / 8 < cfg0.N := by rw [show cfg0.N = 48 from N_0]; have h1 : (i 1 : Nat) < 384 := (i 1).isLt; omega
    show i ∈ ((View.whole main_v5_3).slice (win0_10.rect ⟨(i 1).val / 8, hN⟩)).set
    rw [View.set_slice_whole, Rect.mem_set_unit]
    intro a
    have h0 : (i 0 : Nat) < 48 := (i 0).isLt
    have h1 : (i 1 : Nat) < 384 := (i 1).isLt
    have h2 : (i 2 : Nat) < 32 := (i 2).isLt
    match a with
    | ⟨0, _⟩ => show win0_10.index (⟨(i 1).val / 8, hN⟩ : Fin cfg0.N) 0 * win0_10.size 0 ≤ (i 0 : Nat) ∧ (i 0 : Nat) < win0_10.index (⟨(i 1).val / 8, hN⟩ : Fin cfg0.N) 0 * win0_10.size 0 + win0_10.xsize (grid0.coords (⟨(i 1).val / 8, hN⟩ : Fin cfg0.N)) 0
                rw [show win0_10.index (⟨(i 1).val / 8, hN⟩ : Fin cfg0.N) 0 = 0 from rfl, show win0_10.xsize (grid0.coords (⟨(i 1).val / 8, hN⟩ : Fin cfg0.N)) 0 = 48 from rfl, show win0_10.size 0 = 48 from rfl]; omega
    | ⟨1, _⟩ => show win0_10.index (⟨(i 1).val / 8, hN⟩ : Fin cfg0.N) 1 * win0_10.size 1 ≤ (i 1 : Nat) ∧ (i 1 : Nat) < win0_10.index (⟨(i 1).val / 8, hN⟩ : Fin cfg0.N) 1 * win0_10.size 1 + win0_10.xsize (grid0.coords (⟨(i 1).val / 8, hN⟩ : Fin cfg0.N)) 1
                rw [show win0_10.index (⟨(i 1).val / 8, hN⟩ : Fin cfg0.N) 1 = (i 1).val / 8 from index_val _, show win0_10.xsize (grid0.coords (⟨(i 1).val / 8, hN⟩ : Fin cfg0.N)) 1 = 8 from rfl, show win0_10.size 1 = 8 from rfl]; omega
    | ⟨2, _⟩ => show win0_10.index (⟨(i 1).val / 8, hN⟩ : Fin cfg0.N) 2 * win0_10.size 2 ≤ (i 2 : Nat) ∧ (i 2 : Nat) < win0_10.index (⟨(i 1).val / 8, hN⟩ : Fin cfg0.N) 2 * win0_10.size 2 + win0_10.xsize (grid0.coords (⟨(i 1).val / 8, hN⟩ : Fin cfg0.N)) 2
                rw [show win0_10.index (⟨(i 1).val / 8, hN⟩ : Fin cfg0.N) 2 = 0 from rfl, show win0_10.xsize (grid0.coords (⟨(i 1).val / 8, hN⟩ : Fin cfg0.N)) 2 = 32 from rfl, show win0_10.size 2 = 32 from rfl]; omega⟩

/-! ## The run, read -/

/-- Every execution ends with the four results at their values and the arguments as they were. -/
theorem run (p : Dev nD → Fin 48 → Fin 384)
    (hp : ∀ (c : Dev nD) (b : Fin 48), (m ((c : Thread nD τ).loc main_arg5) : S48.Idx → BitVec 32) (ix1 b) = BitVec.ofNat 32 (p c b).val) :
    θ_run defs (onTc (τ := τ) (main (F := Ideal))) ⟨m, fun _ => 0, ρ⟩ (fun r => ∀ c : Dev nD,
      r.2.mem ((c.tc : Thread nD τ).loc main_v5_0) = resScores m c
      ∧ r.2.mem ((c.tc : Thread nD τ).loc main_v5_1) = resLoss m p c
      ∧ r.2.mem ((c.tc : Thread nD τ).loc main_v5_2) = resKl m c
      ∧ r.2.mem ((c.tc : Thread nD τ).loc main_v5_3) = resTok m c) :=
  (θ_run defs _ _).mono (fun _ h c => ⟨((h c).1 7).trans (final7 m c), ((h c).1 8).trans (final8 m p hp c), ((h c).1 9).trans (final9 m c), ((h c).1 10).trans (final10 m c)⟩)
    (run_main m ρ)

end Cert.KernelIdeal.Body
-- ==== Proof.Gathers.lean ====
/-
  The reference's maximum over the tokens and its two gathers, read at an index.
-/
module

public import proofs.«01_k».proof.Proof.Problem
public import proofs.«01_k».proof.Proof.Gen.ReferenceIdeal.Read

@[expose] public section

noncomputable section

namespace Cert.ReferenceIdeal.Body

open Cert.ReferenceIdeal Cert.ReferenceIdeal.Gen Cert.MaxSim
open Idealize.ShloMosaic Idealize.ShloMosaic.ValueIdx

/-- The maximum over the middle axis of a rank-three array. -/
theorem hostMaxMid_apply {J S N : Nat} {u : Shape} (src : FVec Ideal ⟨3, ![J, S, N]⟩ .f32)
    (h' : Shape.ReducesTo ⟨3, ![J, S, N]⟩ [1] ⟨2, ![J, N]⟩) (h : Shape.Reduces ⟨3, ![J, S, N]⟩ [1] ⟨2, ![J, N]⟩) (hu : 0 < u.numel)
    (j : Fin J) (n : Fin N) :
    Host.reduce FloatOps.maximumf src (constant u .f32 0xFF800000#32) h' hu (ix2 j n) = maxOf fun s : Fin S => src (ix3 j s n) := by
  refine (congrFun (hostReduce_maximumf_eq_multiReduction src _ h' hu h (.inl rfl) rfl) (ix2 j n)).trans ?_
  refine (Ideal.multiReduction_maximumf_single src _ h _ _ (ix2 j n)).trans ?_
  refine congrArg ((Finset.univ : Finset (Fin S)).fold max negInf) (funext fun s : Fin S => congrArg src ?_)
  funext a
  match a with
  | ⟨0, _⟩ => rfl
  | ⟨1, _⟩ => rfl
  | ⟨2, _⟩ => rfl

/-- A small number as a word, read back signed. -/
theorem toInt_ofNat_small (n : Nat) (h : n < 2147483648) : (BitVec.ofNat 32 n).toInt.toNat = n := by
  rw [BitVec.toInt_ofNat']
  simp only [Int.bmod]
  omega

/-- The gather of one element per row. -/
theorem gatherOne_apply {α : Type} (x : S48x384.Idx → α) (idx : IVec S48x2 32) (b r : Fin 48) (p : Fin 384)
    (h0 : idx (ix2 b 0) = BitVec.ofNat 32 r.val) (h1 : idx (ix2 b 1) = BitVec.ofNat 32 p.val) :
    Host.gather gather_S48x384_S48x2_S48_n_01_n_n_01_1_11 x idx (ix1 b) = x (ix2 r p) := by
  unfold Host.gather
  refine congrArg x ?_
  have hk : ∀ a : Fin 2, a ∈ gather_S48x384_S48x2_S48_n_01_n_n_01_1_11.startIndexMap := by decide
  have hc : ∀ a : Fin 2, a ∈ gather_S48x384_S48x2_S48_n_01_n_n_01_1_11.collapsedSliceDims := by decide
  funext a
  refine Fin.ext ?_
  show gather_S48x384_S48x2_S48_n_01_n_n_01_1_11.start (ix1 b) idx a + gather_S48x384_S48x2_S48_n_01_n_n_01_1_11.batchCoord (ix1 b) a
    + gather_S48x384_S48x2_S48_n_01_n_n_01_1_11.offCoord (ix1 b) a = _
  rw [GatherDims.batchCoord_eq_zero _ _ _ List.not_mem_nil,
    GatherDims.offCoord_eq_zero _ _ _ (fun h => ((GatherDims.mem_sKept _ _).mp h).1 (hc a))]
  simp only [Nat.add_zero]
  unfold GatherDims.start
  rw [dif_pos (hk a)]
  have h01 : a = 0 ∨ a = 1 := by
    match a with
    | ⟨0, _⟩ => exact Or.inl rfl
    | ⟨1, _⟩ => exact Or.inr rfl
  have hr := r.isLt
  have hp := p.isLt
  rcases h01 with rfl | rfl
  · refine (congrArg (fun v : BitVec 32 => min v.toInt.toNat 47) ((congrArg idx (?_ : _ = ix2 b 0)).trans h0)).trans ?_
    · funext d
      match d with
      | ⟨0, _⟩ => rfl
      | ⟨1, _⟩ => rfl
    · show min (BitVec.ofNat 32 r.val).toInt.toNat 47 = r.val
      rw [toInt_ofNat_small _ (by omega)]
      omega
  · refine (congrArg (fun v : BitVec 32 => min v.toInt.toNat 383) ((congrArg idx (?_ : _ = ix2 b 1)).trans h1)).trans ?_
    · funext d
      match d with
      | ⟨0, _⟩ => rfl
      | ⟨1, _⟩ => rfl
    · show min (BitVec.ofNat 32 p.val).toInt.toNat 383 = p.val
      rw [toInt_ofNat_small _ (by omega)]
      omega

/-- The gather of one row of eight per query. -/
theorem gatherRow_apply {α : Type} (x : S48x48x8.Idx → α) (idx : IVec S48x2 32) (b r q : Fin 48) (k : Fin 8)
    (h0 : idx (ix2 b 0) = BitVec.ofNat 32 r.val) (h1 : idx (ix2 b 1) = BitVec.ofNat 32 q.val) :
    Host.gather gather_S48x48x8_S48x2_S48x8_1_01_n_n_01_1_118 x idx (ix2 b k) = x (ix3 r q k) := by
  unfold Host.gather
  refine congrArg x ?_
  have hr := r.isLt
  have hq := q.isLt
  funext a
  refine Fin.ext ?_
  show gather_S48x48x8_S48x2_S48x8_1_01_n_n_01_1_118.start (ix2 b k) idx a + gather_S48x48x8_S48x2_S48x8_1_01_n_n_01_1_118.batchCoord (ix2 b k) a
    + gather_S48x48x8_S48x2_S48x8_1_01_n_n_01_1_118.offCoord (ix2 b k) a = _
  rw [GatherDims.batchCoord_eq_zero _ _ _ List.not_mem_nil]
  simp only [Nat.add_zero]
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.offCoord_eq_zero _ _ _ (fun h => ((GatherDims.mem_sKept _ _).mp h).1 (by decide))]
    unfold GatherDims.start
    rw [dif_pos (by decide)]
    refine (congrArg (fun v : BitVec 32 => min v.toInt.toNat 47) ((congrArg idx (?_ : _ = ix2 b 0)).trans h0)).trans ?_
    · funext d
      match d with
      | ⟨0, _⟩ => rfl
      | ⟨1, _⟩ => rfl
    · show min (BitVec.ofNat 32 r.val).toInt.toNat 47 = r.val
      rw [toInt_ofNat_small _ (by omega)]
      omega
  · rw [GatherDims.offCoord_eq_zero _ _ _ (fun h => ((GatherDims.mem_sKept _ _).mp h).1 (by decide))]
    unfold GatherDims.start
    rw [dif_pos (by decide)]
    refine (congrArg (fun v : BitVec 32 => min v.toInt.toNat 47) ((congrArg idx (?_ : _ = ix2 b 1)).trans h1)).trans ?_
    · funext d
      match d with
      | ⟨0, _⟩ => rfl
      | ⟨1, _⟩ => rfl
    · show min (BitVec.ofNat 32 q.val).toInt.toNat 47 = q.val
      rw [toInt_ofNat_small _ (by omega)]
      omega
  · unfold GatherDims.start GatherDims.offCoord
    rw [dif_neg (by decide), dif_pos (by decide)]
    show 0 + k.val = k.val
    omega

end Cert.ReferenceIdeal.Body
-- ==== Proof.RefValue.lean ====
/-
  The reference's results at an index are the problem's expressions of its arguments.
-/
module

public import proofs.«01_k».proof.Proof.Gathers

@[expose] public section

noncomputable section

namespace Cert.ReferenceIdeal.Body

open Cert.ReferenceIdeal Cert.ReferenceIdeal.Gen Cert.ReferenceIdeal.Read Cert.MaxSim
open Idealize.ShloMosaic Idealize.ShloMosaic.ValueIdx

/-- A rank-one index is its coordinate. -/
theorem idx1_eq {n : Nat} (y : (⟨1, ![n]⟩ : Shape).Idx) (b : Fin n) (h : (y 0).val = b.val) : y = ix1 b := by
  funext a
  match a with
  | ⟨0, _⟩ => exact Fin.ext h

/-- A rank-two index is its coordinates. -/
theorem idx2_eq {n k : Nat} (y : (⟨2, ![n, k]⟩ : Shape).Idx) (b : Fin n) (c : Fin k) (h : (y 0).val = b.val) (h' : (y 1).val = c.val) :
    y = ix2 b c := by
  funext a
  match a with
  | ⟨0, _⟩ => exact Fin.ext h
  | ⟨1, _⟩ => exact Fin.ext h'

/-- A rank-three index is its coordinates. -/
theorem idx3_eq {n k l : Nat} (y : (⟨3, ![n, k, l]⟩ : Shape).Idx) (b : Fin n) (c : Fin k) (d : Fin l) (h : (y 0).val = b.val)
    (h' : (y 1).val = c.val) (h'' : (y 2).val = d.val) : y = ix3 b c d := by
  funext a
  match a with
  | ⟨0, _⟩ => exact Fin.ext h
  | ⟨1, _⟩ => exact Fin.ext h'
  | ⟨2, _⟩ => exact Fin.ext h''

/-- A small word is not negative: the wrap of a negative index leaves it. -/
theorem wrap_small (n : Nat) (h : n < 2147483648) (w : BitVec 32) :
    Scalar.select (IntOp.cmpi .slt (BitVec.ofNat 32 n) 0#32) w (BitVec.ofNat 32 n) = BitVec.ofNat 32 n := by
  have hs : (BitVec.ofNat 32 n).slt 0#32 = false := by
    rw [BitVec.slt_eq_decide, BitVec.toInt_ofNat']
    simp only [Int.bmod, decide_eq_false_iff_not]
    simp
    omega
  show (if BitVec.ofBool ((BitVec.ofNat 32 n).slt 0#32) = 1#1 then w else BitVec.ofNat 32 n) = BitVec.ofNat 32 n
  rw [hs]
  exact if_neg (by decide)

variable (x1 : (⟨S48x32, .f32⟩ : BufTy).Contents (Elt Ideal)) (x3 : (⟨S384x300, .f32⟩ : BufTy).Contents (Elt Ideal))
  (x4 : (⟨S384, .i32⟩ : BufTy).Contents (Elt Ideal)) (x5 : (⟨S48, .i32⟩ : BufTy).Contents (Elt Ideal))
  (x6 : (⟨S48x8, .f32⟩ : BufTy).Contents (Elt Ideal))
  (r0 : (⟨S48x32x96, .f32⟩ : BufTy).Contents (Elt Ideal)) (r1 : (⟨S384x300x96, .f32⟩ : BufTy).Contents (Elt Ideal))

/-! ## The scores -/

/-- The masked score of one token pair, the query tokens in one row of `48 · 32`. -/
theorem v13_at (j : Fin 384) (s : Fin 300) (b : Fin 48) (l : Fin 32) (n : Fin 1536) (hn : n.val = 32 * b.val + l.val) :
    val_main_v13 (F := Ideal) x3 x4 r0 r1 (ix3 j s n)
      = tokenScore (∑ k : Fin 96, r1 (ix3 j s k) * r0 (ix3 b l k)) (x3 (ix2 j s)) s.val (x4 (ix1 j)) := by
  have hl := l.isLt
  have hb := b.isLt
  have e8 : val_main_v8 (F := Ideal) r0 r1 (ix3 j s n) = ∑ k : Fin 96, r1 (ix3 j s k) * r0 (ix3 b l k) := by
    rw [val_main_v8_apply]
    refine Finset.sum_congr rfl fun k _ => ?_
    have hk := k.isLt
    rw [val_main_v7_apply]
    refine congrArg₂ (· * ·) (congrArg r1 (idx3_eq _ j s k rfl rfl rfl)) (congrArg r0 (idx3_eq _ b l k ?_ ?_ ?_))
    · show (n.val * 96 + k.val) / 3072 = b.val
      omega
    · show (n.val * 96 + k.val) / 96 % 32 = l.val
      omega
    · show (n.val * 96 + k.val) % 96 = k.val
      omega
  have e10 : val_main_v10 (F := Ideal) x3 (ix3 j s n) = x3 (ix2 j s) := by
    rw [val_main_v10_apply, val_main_v9_apply]
    exact congrArg x3 (idx2_eq _ j s rfl rfl)
  have ec : val_main_call0_v1 (F := Ideal) x4 (ix3 j s n) = IntOp.cmpi .slt (BitVec.ofNat 32 s.val) (x4 (ix1 j)) := by
    rw [val_main_call0_v1_apply, val_main_v12_apply, val_main_v6_apply, val_main_v4_apply, val_main_v2_apply, val_main_v1_apply,
      val_main_v5_apply, val_main_v3_apply]
    exact congrArg (fun v => IntOp.cmpi .slt (BitVec.ofNat 32 s.val) v) (congrArg x4 (idx1_eq _ j rfl))
  have e2 : val_main_call0_v2 (F := Ideal) (ix3 j s n) = negInf := by
    rw [val_main_call0_v2_apply]
    rfl
  rw [val_main_v13_apply, val_main_v11_apply, e8, e10, ec, e2]
  rfl

/-- The best score of a query token in a document. -/
theorem v16_at (b : Fin 48) (j : Fin 384) (l : Fin 32) :
    val_main_v16 (F := Ideal) x3 x4 r0 r1 (ix3 b j l) = best r0 r1 x3 x4 b j l := by
  have hb := b.isLt
  have hj := j.isLt
  have hl := l.isLt
  rw [val_main_v16_apply, val_main_v15_apply]
  refine (congrArg (val_main_v14 (F := Ideal) x3 x4 r0 r1) (idx2_eq _ j ⟨32 * b.val + l.val, by omega⟩ ?_ ?_)).trans ?_
  · show ((j.val * 48 + b.val) * 32 + l.val) / 1536 = j.val
    omega
  · show ((j.val * 48 + b.val) * 32 + l.val) % 1536 = 32 * b.val + l.val
    omega
  · refine (hostMaxMid_apply (val_main_v13 (F := Ideal) x3 x4 r0 r1) reducesTo_S384x300x1536_S384x1536_d1 (by decide) h_S_ j _).trans ?_
    exact congrArg maxOf (funext fun s => v13_at x3 x4 r0 r1 j s b l _ rfl)

/-- A query token's best score, scaled. -/
theorem v19_at (b : Fin 48) (j : Fin 384) (l : Fin 32) :
    val_main_v19 (F := Ideal) x1 x3 x4 r0 r1 (ix3 b j l) = tokenMax r0 x1 r1 x3 x4 b j l := by
  rw [val_main_v19_apply, v16_at, val_main_v18_apply, val_main_v17_apply]
  exact congrArg (fun v => best r0 r1 x3 x4 b j l * v) (congrArg x1 (idx2_eq _ b l rfl rfl))

/-- A document's score for a query. -/
theorem v20_at (b : Fin 48) (j : Fin 384) : val_main_v20 (F := Ideal) x1 x3 x4 r0 r1 (ix2 b j) = docScore r0 x1 r1 x3 x4 b j := by
  rw [val_main_v20_apply]
  refine (congrArg₂ (· + ·) Ideal.ofBits_zero_f32 (Finset.sum_congr rfl fun l _ =>
    (congrArg (val_main_v19 (F := Ideal) x1 x3 x4 r0 r1) (idx3_eq _ b j l rfl rfl rfl)).trans (v19_at x1 x3 x4 r0 r1 b j l))).trans ?_
  exact zero_add _

/-! ## The contrastive loss -/

/-- The row maximum of the scores. -/
theorem v22_at (b : Fin 48) : val_main_v22 (F := Ideal) x1 x3 x4 r0 r1 (ix1 b) = maxOf fun j : Fin 384 => docScore r0 x1 r1 x3 x4 b j :=
  (hostMax1_apply (val_main_v20 (F := Ideal) x1 x3 x4 r0 r1) reducesTo_S48x384_S48_d1 (by decide) h_S_ b).trans
    (congrArg maxOf (funext fun j => v20_at x1 x3 x4 r0 r1 b j))

/-- The logarithm of the sum of the exponentials of the scores. -/
theorem v29_at (b : Fin 48) : val_main_v29 (F := Ideal) x1 x3 x4 r0 r1 (ix1 b) = lse fun j : Fin 384 => docScore r0 x1 r1 x3 x4 b j := by
  have e27 : val_main_v27 (F := Ideal) x1 x3 x4 r0 r1 (ix1 b)
      = ∑ k : Fin 384, FloatOps.exp (F := Ideal) (φ := .f32)
          (docScore r0 x1 r1 x3 x4 b k - maxOf fun j : Fin 384 => docScore r0 x1 r1 x3 x4 b j) := by
    rw [val_main_v27_apply]
    refine (congrArg₂ (· + ·) Ideal.ofBits_zero_f32 (Finset.sum_congr rfl fun k _ => ?_)).trans (zero_add _)
    refine (congrArg (val_main_v26 (F := Ideal) x1 x3 x4 r0 r1) (idx2_eq _ b k rfl rfl)).trans ?_
    rw [val_main_v26_apply, val_main_v25_apply, v20_at, val_main_v24_apply, val_main_v23_apply]
    exact congrArg (fun v => FloatOps.exp (F := Ideal) (φ := .f32) (docScore r0 x1 r1 x3 x4 b k - v))
      ((congrArg (val_main_v22 (F := Ideal) x1 x3 x4 r0 r1) (idx1_eq _ b rfl)).trans (v22_at x1 x3 x4 r0 r1 b))
  rw [val_main_v29_apply, val_main_v28_apply, e27, v22_at]
  rfl

/-- The first column of the pairs of coordinates: the query. -/
theorem v34_at (b : Fin 48) : val_main_v34 (F := Ideal) (ix1 b) = BitVec.ofNat 32 b.val := by
  have hb := b.isLt
  rw [val_main_v34_apply, val_main_v31_apply, val_main_v30_apply]
  exact wrap_small b.val (by omega) _

/-- The second column: the query's own document. -/
theorem v39_at (b : Fin 48) (p : Fin 384) (hp : x5 (ix1 b) = BitVec.ofNat 32 p.val) :
    val_main_v39 (F := Ideal) x5 (ix1 b) = BitVec.ofNat 32 p.val := by
  have hb := p.isLt
  rw [val_main_v39_apply, val_main_v36_apply, val_main_v35_apply, hp]
  exact wrap_small p.val (by omega) _

/-- The pair of two columns, at its first column. -/
theorem pair_left (u v : IVec S48x1 32) (b : Fin 48) :
    concatenate S48x2 1 [⟨S48x1, u⟩, ⟨S48x1, v⟩] concatenates_S48x1_S48x1_S48x2_d1 (ix2 b 0) = u (ix2 b 0) :=
  concatenate_pair_apply_left (t := S48x2) (s₁ := S48x1) (s₂ := S48x1) 1 u v _ (ix2 b 0) rfl (ix2 b 0) (fun a => by
    match a with
    | ⟨0, _⟩ => rfl
    | ⟨1, _⟩ => rfl)

/-- The pair of two columns, at its second column. -/
theorem pair_right (u v : IVec S48x1 32) (b : Fin 48) :
    concatenate S48x2 1 [⟨S48x1, u⟩, ⟨S48x1, v⟩] concatenates_S48x1_S48x1_S48x2_d1 (ix2 b 1) = v (ix2 b 0) :=
  concatenate_pair_apply_right (t := S48x2) (s₁ := S48x1) (s₂ := S48x1) 1 u v _ (ix2 b 1) rfl rfl (ix2 b 0) (fun a ha => by
    match a with
    | ⟨0, _⟩ => rfl
    | ⟨1, _⟩ => exact absurd rfl ha) rfl

/-- The score of the query's own document. -/
theorem v43_at (b : Fin 48) (p : Fin 384) (hp : x5 (ix1 b) = BitVec.ofNat 32 p.val) :
    val_main_v43 (F := Ideal) x1 x3 x4 x5 r0 r1 (ix1 b) = docScore r0 x1 r1 x3 x4 b p := by
  refine (gatherOne_apply (val_main_v20 (F := Ideal) x1 x3 x4 r0 r1) (val_main_v42 (F := Ideal) x5) b b p ?_ ?_).trans
    (v20_at x1 x3 x4 r0 r1 b p)
  · refine (pair_left _ _ b).trans ?_
    rw [val_main_v40_apply]
    exact (congrArg (val_main_v34 (F := Ideal)) (idx1_eq _ b rfl)).trans (v34_at b)
  · refine (pair_right _ _ b).trans ?_
    rw [val_main_v41_apply]
    exact (congrArg (val_main_v39 (F := Ideal) x5) (idx1_eq _ b rfl)).trans (v39_at x5 b p hp)

/-! ## The distillation loss -/

/-- The scores of a query's own eight documents. -/
theorem v59_at (b : Fin 48) (k : Fin 8) (h : 8 * b.val + k.val < 384) :
    val_main_v59 (F := Ideal) x1 x3 x4 r0 r1 (ix2 b k) = docScore r0 x1 r1 x3 x4 b ⟨8 * b.val + k.val, h⟩ := by
  have hb := b.isLt
  have hk := k.isLt
  refine (gatherRow_apply (val_main_v45 (F := Ideal) x1 x3 x4 r0 r1) (val_main_v58 (F := Ideal)) b b b k ?_ ?_).trans ?_
  · refine (pair_left _ _ b).trans ?_
    rw [val_main_v56_apply]
    exact (congrArg (val_main_v34 (F := Ideal)) (idx1_eq _ b rfl)).trans (v34_at b)
  · refine (pair_right _ _ b).trans ?_
    rw [val_main_v57_apply]
    exact (congrArg (val_main_v34 (F := Ideal)) (idx1_eq _ b rfl)).trans (v34_at b)
  · rw [val_main_v45_apply]
    refine (congrArg (val_main_v20 (F := Ideal) x1 x3 x4 r0 r1) (idx2_eq _ b ⟨8 * b.val + k.val, h⟩ ?_ ?_)).trans
      (v20_at x1 x3 x4 r0 r1 b _)
    · show ((b.val * 48 + b.val) * 8 + k.val) / 384 = b.val
      omega
    · show ((b.val * 48 + b.val) * 8 + k.val) % 384 = 8 * b.val + k.val
      omega

/-- The logarithm of the softmax of a row of eight. -/
theorem v60_at (b : Fin 48) (k : Fin 8) : val_main_v60 (F := Ideal) x6 (ix2 b k) = logSoftmax (fun w : Fin 8 => x6 (ix2 b w)) k := by
  have e2 : val_main_call1_v2 (F := Ideal) x6 (ix1 b) = maxOf fun w : Fin 8 => x6 (ix2 b w) := by
    rw [val_main_call1_v2_apply]
    refine (congrArg₂ max (val_main_call1_v1_apply (F := Ideal) (ix1 b)) (hostMax1_apply x6 reducesTo_S48x8_S48_d1 (by decide) h_S_ b)).trans ?_
    exact max_negInf_maxOf _
  have e5 : ∀ w : Fin 8, val_main_call1_v5 (F := Ideal) x6 (ix2 b w) = x6 (ix2 b w) - maxOf fun w : Fin 8 => x6 (ix2 b w) := by
    intro w
    rw [val_main_call1_v5_apply, val_main_call1_v4_apply, val_main_call1_v3_apply]
    exact congrArg (fun v => x6 (ix2 b w) - v) ((congrArg (val_main_call1_v2 (F := Ideal) x6) (idx1_eq _ b rfl)).trans e2)
  have e7 : val_main_call1_v7 (F := Ideal) x6 (ix1 b)
      = ∑ w : Fin 8, FloatOps.exp (F := Ideal) (φ := .f32) (x6 (ix2 b w) - maxOf fun w : Fin 8 => x6 (ix2 b w)) := by
    rw [val_main_call1_v7_apply]
    refine (congrArg₂ (· + ·) Ideal.ofBits_zero_f32 (Finset.sum_congr rfl fun w _ => ?_)).trans (zero_add _)
    refine (congrArg (val_main_call1_v6 (F := Ideal) x6) (idx2_eq _ b w rfl rfl)).trans ?_
    rw [val_main_call1_v6_apply, e5]
    rfl
  have e10 : val_main_call1_v10 (F := Ideal) x6 (ix2 b k) = FloatOps.log (F := Ideal) (φ := .f32)
      (∑ w : Fin 8, FloatOps.exp (F := Ideal) (φ := .f32) (x6 (ix2 b w) - maxOf fun w : Fin 8 => x6 (ix2 b w))) := by
    rw [val_main_call1_v10_apply, val_main_call1_v9_apply, val_main_call1_v8_apply]
    exact congrArg (fun v => FloatOps.log (F := Ideal) (φ := .f32) v)
      ((congrArg (val_main_call1_v7 (F := Ideal) x6) (idx1_eq _ b rfl)).trans e7)
  rw [val_main_v60_apply, e5, e10]
  rfl

/-- The student's logarithm of the softmax is the teacher's expression, of its own eight scores. -/
theorem v62_eq : val_main_v62 (F := Ideal) x1 x3 x4 r0 r1 = val_main_v60 (F := Ideal) (val_main_v59 (F := Ideal) x1 x3 x4 r0 r1) := rfl

/-- The distillation loss of a query. -/
theorem v65_at (b : Fin 48) : val_main_v65 (F := Ideal) x1 x3 x4 x6 r0 r1 (ix1 b) = klLoss r0 x1 r1 x3 x4 x6 b := by
  have hb := b.isLt
  unfold klLoss kl
  rw [val_main_v65_apply]
  refine (congrArg₂ (· + ·) Ideal.ofBits_zero_f32 (Finset.sum_congr rfl fun w _ => ?_)).trans (zero_add _)
  refine (congrArg (val_main_v64 (F := Ideal) x1 x3 x4 x6 r0 r1) (idx2_eq _ b w rfl rfl)).trans ?_
  rw [val_main_v64_apply, val_main_v63_apply, val_main_v61_apply, v62_eq, v60_at, v60_at]
  refine congrArg (fun g : Fin 8 → EReal => FloatOps.exp (F := Ideal) (φ := .f32) (logSoftmax (fun k : Fin 8 => x6 (ix2 b k)) w)
    * (logSoftmax (fun k : Fin 8 => x6 (ix2 b k)) w - logSoftmax g w)) (funext fun k => ?_)
  have hk := k.isLt
  exact v59_at x1 x3 x4 r0 r1 b k (by omega)

/-- The full loss of a query. -/
theorem v67_at (b : Fin 48) (z : Fin 1) (p : Fin 384) (hp : x5 (ix1 b) = BitVec.ofNat 32 p.val) :
    val_main_v67 (F := Ideal) x1 x3 x4 x5 x6 r0 r1 (ix2 b z) = fullLoss r0 x1 r1 x3 x4 x6 b p := by
  rw [val_main_v67_apply]
  refine (congrArg (val_main_v66 (F := Ideal) x1 x3 x4 x5 x6 r0 r1) (idx1_eq _ b rfl)).trans ?_
  rw [val_main_v66_apply, val_main_v44_apply, v29_at, v43_at x1 x3 x4 x5 r0 r1 b p hp, v65_at]
  rfl

/-- The distillation loss of a query, as a column. -/
theorem v68_at (b : Fin 48) (z : Fin 1) : val_main_v68 (F := Ideal) x1 x3 x4 x6 r0 r1 (ix2 b z) = klLoss r0 x1 r1 x3 x4 x6 b := by
  rw [val_main_v68_apply]
  exact (congrArg (val_main_v65 (F := Ideal) x1 x3 x4 x6 r0 r1) (idx1_eq _ b rfl)).trans (v65_at x1 x3 x4 x6 r0 r1 b)

end Cert.ReferenceIdeal.Body
-- ==== Proof.RefFinal.lean ====
/-
  The reference's run: its decoded arrays are the arguments as they stand, and its results the problem's expressions.
-/
module

public import proofs.«01_k».proof.Proof.RefValue
public import proofs.«01_k».proof.Proof.Gen.ReferenceIdeal.Run

@[expose] public section

noncomputable section

namespace Cert.ReferenceIdeal.Body

open Cert.ReferenceIdeal Cert.ReferenceIdeal.Gen Cert.ReferenceIdeal.Read Cert.MaxSim
open Idealize.ShloMosaic Idealize.ShloMosaic.ValueIdx Idealize.ShloMosaic.TcCoe
open Idealize.SL Idealize.SL.Sem

variable (m : (ℓ : Loc nD τ sig) → Buf (Elt Ideal) ℓ) (ρ : Dev nD → PrngReg)

/-- The query argument, its type stated. -/
abbrev argQ (c : Dev nD) : S48x32x96.Idx → EReal := m ((c : Thread nD τ).loc main_arg0)
/-- The document argument, its type stated. -/
abbrev argD (c : Dev nD) : S384x300x96.Idx → EReal := m ((c : Thread nD τ).loc main_arg2)

/-- Three zeros. -/
theorem hz3 : (![0, 0, 0] : Fin 3 → Nat) = fun _ => 0 := by decide

/-- The queries' block is the array. -/
theorem iblk0_eq (c : Dev nD) (t : Fin cfg0.N) (y : S48x32x96.Idx) : iblk m c 0 t y = argQ m c y := by
  show V m c main_arg0 _ = _
  rw [V_main_arg0]
  refine congrArg (argQ m c) (funext fun a => Fin.ext ?_)
  match a with
  | ⟨0, _⟩ => show 0 * 48 + 1 * (y 0).val = (y 0).val; omega
  | ⟨1, _⟩ => show 0 * 32 + 1 * (y 1).val = (y 1).val; omega
  | ⟨2, _⟩ => show 0 * 96 + 1 * (y 2).val = (y 2).val; omega

/-- The documents' block is the array. -/
theorem iblk1_eq (c : Dev nD) (t : Fin cfg0.N) (y : S384x300x96.Idx) : iblk m c 1 t y = argD m c y := by
  show V m c main_arg2 _ = _
  rw [V_main_arg2]
  refine congrArg (argD m c) (funext fun a => Fin.ext ?_)
  match a with
  | ⟨0, _⟩ => show 0 * 384 + 1 * (y 0).val = (y 0).val; omega
  | ⟨1, _⟩ => show 0 * 300 + 1 * (y 1).val = (y 1).val; omega
  | ⟨2, _⟩ => show 0 * 96 + 1 * (y 2).val = (y 2).val; omega

/-- The decoded queries' block. -/
theorem out2_eq (c : Dev nD) (t : Fin cfg0.N) (y : S48x32x96.Idx) : out0_2 (iblk m c 0 t) (iblk m c 1 t) y = argQ m c y := by
  unfold out0_2
  rw [View.canon_unit_zero hz3, View.ld_unit_zero hz3]
  exact iblk0_eq m c t y

/-- The decoded documents' block. -/
theorem out3_eq (c : Dev nD) (t : Fin cfg0.N) (y : S384x300x96.Idx) : out0_3 (iblk m c 0 t) (iblk m c 1 t) y = argD m c y := by
  unfold out0_3
  rw [View.canon_unit_zero hz3, View.ld_unit_zero hz3]
  exact iblk1_eq m c t y

/-- The only point. -/
def t0 : Fin cfg0.N := ⟨0, by decide⟩

/-- The decoded queries at the region's end. -/
theorem reg0_eq (c : Dev nD) : (Value.reg_main_v0_0 m c : S48x32x96.Idx → EReal) = argQ m c :=
  (dats m 0 c).arrAt_eq_of_cover 2 (argQ m c) (fun t _ => by
    show (cfg0.win 2).cut (grid0.coords t) ((dats m 0 c).after 2 t) = _
    rw [after0_2]
    funext y
    rw [View.read_apply]
    refine (out2_eq m c t y).trans (congrArg (argQ m c) (funext fun a => Fin.ext ?_))
    match a with
    | ⟨0, _⟩ => show (y 0).val = 0 * 48 + 1 * (y 0).val; omega
    | ⟨1, _⟩ => show (y 1).val = 0 * 32 + 1 * (y 1).val; omega
    | ⟨2, _⟩ => show (y 2).val = 0 * 96 + 1 * (y 2).val; omega) fun i => ⟨t0, flush0_2 t0, by
    show i ∈ ((View.whole main_v0_0).slice (win0_2.rect t0)).set
    rw [View.set_slice_whole, Rect.mem_set_unit]
    intro a
    match a with
    | ⟨0, _⟩ => exact ⟨Nat.zero_le _, by show (i 0).val < 0 + 48; have h : (i 0 : Nat) < 48 := (i 0).isLt; omega⟩
    | ⟨1, _⟩ => exact ⟨Nat.zero_le _, by show (i 1).val < 0 + 32; have h : (i 1 : Nat) < 32 := (i 1).isLt; omega⟩
    | ⟨2, _⟩ => exact ⟨Nat.zero_le _, by show (i 2).val < 0 + 96; have h : (i 2 : Nat) < 96 := (i 2).isLt; omega⟩⟩

/-- The decoded documents at the region's end. -/
theorem reg1_eq (c : Dev nD) : (Value.reg_main_v0_1 m c : S384x300x96.Idx → EReal) = argD m c :=
  (dats m 0 c).arrAt_eq_of_cover 3 (argD m c) (fun t _ => by
    show (cfg0.win 3).cut (grid0.coords t) ((dats m 0 c).after 3 t) = _
    rw [after0_3]
    funext y
    rw [View.read_apply]
    refine (out3_eq m c t y).trans (congrArg (argD m c) (funext fun a => Fin.ext ?_))
    match a with
    | ⟨0, _⟩ => show (y 0).val = 0 * 384 + 1 * (y 0).val; omega
    | ⟨1, _⟩ => show (y 1).val = 0 * 300 + 1 * (y 1).val; omega
    | ⟨2, _⟩ => show (y 2).val = 0 * 96 + 1 * (y 2).val; omega) fun i => ⟨t0, flush0_3 t0, by
    show i ∈ ((View.whole main_v0_1).slice (win0_3.rect t0)).set
    rw [View.set_slice_whole, Rect.mem_set_unit]
    intro a
    match a with
    | ⟨0, _⟩ => exact ⟨Nat.zero_le _, by show (i 0).val < 0 + 384; have h : (i 0 : Nat) < 384 := (i 0).isLt; omega⟩
    | ⟨1, _⟩ => exact ⟨Nat.zero_le _, by show (i 1).val < 0 + 300; have h : (i 1 : Nat) < 300 := (i 1).isLt; omega⟩
    | ⟨2, _⟩ => exact ⟨Nat.zero_le _, by show (i 2).val < 0 + 96; have h : (i 2 : Nat) < 96 := (i 2).isLt; omega⟩⟩

/-! ## The results -/

/-- The scores. -/
def resScores (c : Dev nD) : S48x384.Idx → EReal := fun y =>
  docScore (m ((c : Thread nD τ).loc main_arg0)) (m ((c : Thread nD τ).loc main_arg1)) (m ((c : Thread nD τ).loc main_arg2)) (m ((c : Thread nD τ).loc main_arg3)) (m ((c : Thread nD τ).loc main_arg4)) (y 0) (y 1)

/-- The losses, each query's document given by `p`. -/
def resLoss (p : Dev nD → Fin 48 → Fin 384) (c : Dev nD) : S48x1.Idx → EReal := fun y =>
  fullLoss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (y 0) (p c (y 0))

/-- The distillation losses. -/
def resKl (c : Dev nD) : S48x1.Idx → EReal := fun y =>
  klLoss (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg6)) (y 0)

/-- The token maxima. -/
def resTok (c : Dev nD) : S48x384x32.Idx → EReal := fun y =>
  tokenMax (m ((c : Thread nD τ).loc main_arg0)) (m ((c : Thread nD τ).loc main_arg1)) (m ((c : Thread nD τ).loc main_arg2)) (m ((c : Thread nD τ).loc main_arg3)) (m ((c : Thread nD τ).loc main_arg4)) (y 0) (y 1) (y 2)

theorem scores_eq (c : Dev nD) : Value.res_main_v20 (Value.exitV m c) = resScores m c := by
  rw [val_main_v20_eq, Value.exit_main_arg1, Value.exit_main_arg3, Value.exit_main_arg4, Value.exit_main_v0_0, Value.exit_main_v0_1,
    reg0_eq, reg1_eq]
  funext y
  obtain ⟨b, j, rfl⟩ : ∃ (b : Fin 48) (j : Fin 384), y = (ix2 b j : S48x384.Idx) := ⟨y 0, y 1, eq_ix2 (n0 := 48) (n1 := 384) y⟩
  exact v20_at _ _ _ _ _ b j

theorem loss_eq (p : Dev nD → Fin 48 → Fin 384)
    (hp : ∀ (c : Dev nD) (b : Fin 48), (m ((c : Thread nD τ).loc main_arg5) : S48.Idx → BitVec 32) (ix1 b) = BitVec.ofNat 32 (p c b).val)
    (c : Dev nD) (v : S48x1.Idx → EReal) (hv : v = val_main_v67 (F := Ideal) (Value.exitV m c (Proc.devRef .tc main_arg1)) (Value.exitV m c (Proc.devRef .tc main_arg3)) (Value.exitV m c (Proc.devRef .tc main_arg4)) (Value.exitV m c (Proc.devRef .tc main_arg5)) (Value.exitV m c (Proc.devRef .tc main_arg6)) (Value.exitV m c (Proc.devRef .tc main_v0_0)) (Value.exitV m c (Proc.devRef .tc main_v0_1))) :
    v = resLoss m p c := by
  rw [hv, Value.exit_main_arg1, Value.exit_main_arg3, Value.exit_main_arg4, Value.exit_main_arg5, Value.exit_main_arg6, Value.exit_main_v0_0, Value.exit_main_v0_1,
    reg0_eq, reg1_eq]
  funext y
  obtain ⟨b, z, rfl⟩ : ∃ (b : Fin 48) (z : Fin 1), y = (ix2 b z : S48x1.Idx) := ⟨y 0, y 1, eq_ix2 (n0 := 48) (n1 := 1) y⟩
  exact v67_at _ _ _ _ _ _ _ b z (p c b) (hp c b)

theorem kl_eq (c : Dev nD) (v : S48x1.Idx → EReal) (hv : v = val_main_v68 (F := Ideal) (Value.exitV m c (Proc.devRef .tc main_arg1)) (Value.exitV m c (Proc.devRef .tc main_arg3)) (Value.exitV m c (Proc.devRef .tc main_arg4)) (Value.exitV m c (Proc.devRef .tc main_arg6)) (Value.exitV m c (Proc.devRef .tc main_v0_0)) (Value.exitV m c (Proc.devRef .tc main_v0_1))) :
    v = resKl m c := by
  rw [hv, Value.exit_main_arg1, Value.exit_main_arg3, Value.exit_main_arg4, Value.exit_main_arg6, Value.exit_main_v0_0, Value.exit_main_v0_1,
    reg0_eq, reg1_eq]
  funext y
  obtain ⟨b, z, rfl⟩ : ∃ (b : Fin 48) (z : Fin 1), y = (ix2 b z : S48x1.Idx) := ⟨y 0, y 1, eq_ix2 (n0 := 48) (n1 := 1) y⟩
  exact v68_at _ _ _ _ _ _ b z

theorem tok_eq (c : Dev nD) (v : S48x384x32.Idx → EReal) (hv : v = val_main_v19 (F := Ideal) (Value.exitV m c (Proc.devRef .tc main_arg1)) (Value.exitV m c (Proc.devRef .tc main_arg3)) (Value.exitV m c (Proc.devRef .tc main_arg4)) (Value.exitV m c (Proc.devRef .tc main_v0_0)) (Value.exitV m c (Proc.devRef .tc main_v0_1))) :
    v = resTok m c := by
  rw [hv, Value.exit_main_arg1, Value.exit_main_arg3, Value.exit_main_arg4, Value.exit_main_v0_0, Value.exit_main_v0_1,
    reg0_eq, reg1_eq]
  funext y
  obtain ⟨b, j, l, rfl⟩ : ∃ (b : Fin 48) (j : Fin 384) (l : Fin 32), y = (ix3 b j l : S48x384x32.Idx) := ⟨y 0, y 1, y 2, eq_ix3 (n0 := 48) (n1 := 384) (n2 := 32) y⟩
  exact v19_at _ _ _ _ _ b j l

/-- The reference ends with the problem's results and its arguments unchanged. -/
theorem run (p : Dev nD → Fin 48 → Fin 384)
    (hp : ∀ (c : Dev nD) (b : Fin 48), (m ((c : Thread nD τ).loc main_arg5) : S48.Idx → BitVec 32) (ix1 b) = BitVec.ofNat 32 (p c b).val) :
    θ_run defs (onTc (τ := τ) (main (F := Ideal))) ⟨m, fun _ => 0, ρ⟩ (fun r => ∀ c : Dev nD,
      r.2.mem ((c.tc : Thread nD τ).loc main_v20) = resScores m c
      ∧ r.2.mem ((c.tc : Thread nD τ).loc main_v67) = resLoss m p c
      ∧ r.2.mem ((c.tc : Thread nD τ).loc main_v68) = resKl m c
      ∧ r.2.mem ((c.tc : Thread nD τ).loc main_v19) = resTok m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => by
    obtain ⟨h0, h1, h2, h3, hr⟩ := h c
    exact ⟨h0.trans (scores_eq m c), loss_eq m p hp c _ (h1.trans (val_main_v67_eq (Value.exitV m c))),
      kl_eq m c _ (h2.trans (val_main_v68_eq (Value.exitV m c))), tok_eq m c _ (h3.trans (val_main_v19_eq (Value.exitV m c))), hr⟩)
    (Value.run m ρ)

end Cert.ReferenceIdeal.Body
-- ==== Proof.lean ====
module

public import proofs.«01_k».proof.Defs
public import proofs.«01_k».proof.Proof.Gen.Kernel
public import proofs.«01_k».proof.Proof.KernelFrame
public import proofs.«01_k».proof.Proof.Gen.KernelIdeal
public import proofs.«01_k».proof.Proof.Gen.ReferenceIdeal
public import proofs.«01_k».proof.Proof.Gen.ReferenceIdeal.Frame
public import proofs.«01_k».proof.Proof.Final
public import proofs.«01_k».proof.Proof.RefFinal
public import Idealize.ShloMosaic.Adequacy
public import Idealize.ShloMosaic.Init

@[expose] public section

noncomputable section

namespace Cert.Proof

open Idealize.ShloMosaic Idealize.ShloMosaic.ValueIdx Idealize.SL.Sem

/-- The side condition of the precondition's text. -/
theorem preFacts : Cert.Pre_pos_in_range.Facts where
  bcast_S_S48 := by decide

/-- A word between zero and 384, read signed, is a position's number. -/
theorem word_in_range (w : BitVec 32) (h : IntOp.andi (IntOp.cmpi .sge w 0#32) (IntOp.cmpi .slt w 384#32) = 1#1) : w.toNat < 384 := by
  have hand : ∀ a b : Bool, (BitVec.ofBool a &&& BitVec.ofBool b) = 1#1 → a = true ∧ b = true := by decide
  obtain ⟨h0, h1⟩ : (0#32).sle w = true ∧ w.slt 384#32 = true := hand _ _ h
  rw [BitVec.sle_eq_decide, decide_eq_true_eq] at h0
  rw [BitVec.slt_eq_decide, decide_eq_true_eq] at h1
  have e0 : (0#32 : BitVec 32).toInt = 0 := by decide
  have e1 : (384#32 : BitVec 32).toInt = 384 := by decide
  rw [e0] at h0
  rw [e1] at h1
  rw [BitVec.toInt_eq_toNat_cond] at h0 h1
  have := w.isLt
  split at h0 <;> split at h1 <;> omega

/-- The precondition says each query's document is one of the 384. -/
theorem positions (m : (ℓ : Loc Cert.KernelIdeal.nD Cert.KernelIdeal.τ Cert.KernelIdeal.sig) → Buf (Elt Ideal) ℓ)
    (h : Cert.Pre_KernelIdeal_pos_in_range (hPre_pos_in_range := preFacts) m) :
    ∃ p : Dev Cert.KernelIdeal.nD → Fin 48 → Fin 384, ∀ (c : Dev Cert.KernelIdeal.nD) (b : Fin 48),
      (m ((c.tc : Thread Cert.KernelIdeal.nD Cert.KernelIdeal.τ).loc Cert.KernelIdeal.main_arg5) : Cert.KernelIdeal.S48.Idx → BitVec 32) (ix1 b)
        = BitVec.ofNat 32 (p c b).val := by
  refine ⟨fun c b => ⟨((m ((c.tc : Thread Cert.KernelIdeal.nD Cert.KernelIdeal.τ).loc Cert.KernelIdeal.main_arg5) : Cert.KernelIdeal.S48.Idx → BitVec 32) (ix1 b)).toNat,
    word_in_range _ (congrFun (h c) (ix1 b))⟩, fun c b => ?_⟩
  simp

/-- The two programs end with equal results. -/
theorem algebraic : Cert.algebraic_KernelIdeal_ReferenceIdeal_pre_pos_in_range (hKernelIdeal := Cert.KernelIdeal.Gen.facts)
    (hReferenceIdeal := Cert.ReferenceIdeal.Gen.facts) (hPre_pos_in_range := preFacts) := by
  intro m g m' g' hpre hargs
  obtain ⟨p, hp⟩ := positions m hpre
  have hp' : ∀ (c : Dev Cert.ReferenceIdeal.nD) (b : Fin 48),
      (m' ((c.tc : Thread Cert.ReferenceIdeal.nD Cert.ReferenceIdeal.τ).loc Cert.ReferenceIdeal.main_arg5) : Cert.ReferenceIdeal.S48.Idx → BitVec 32) (ix1 b)
        = BitVec.ofNat 32 (p c b).val :=
    fun c b => (congrFun (hargs c).2.2.2.2.2.1 (ix1 b)).trans (hp c b)
  have e0 : ∀ c, Cert.ReferenceIdeal.Body.resScores m' c = Cert.KernelIdeal.Body.resScores m c := by
    intro c
    obtain ⟨a0, a1, a2, a3, a4, a5, a6⟩ := hargs c
    unfold Cert.ReferenceIdeal.Body.resScores Cert.KernelIdeal.Body.resScores
    rw [a0, a1, a2, a3, a4]
  have e1 : ∀ c, Cert.ReferenceIdeal.Body.resLoss m' p c = Cert.KernelIdeal.Body.resLoss m p c := by
    intro c
    obtain ⟨a0, a1, a2, a3, a4, a5, a6⟩ := hargs c
    unfold Cert.ReferenceIdeal.Body.resLoss Cert.KernelIdeal.Body.resLoss
    rw [a0, a1, a2, a3, a4, a6]
  have e2 : ∀ c, Cert.ReferenceIdeal.Body.resKl m' c = Cert.KernelIdeal.Body.resKl m c := by
    intro c
    obtain ⟨a0, a1, a2, a3, a4, a5, a6⟩ := hargs c
    unfold Cert.ReferenceIdeal.Body.resKl Cert.KernelIdeal.Body.resKl
    rw [a0, a1, a2, a3, a4, a6]
  have e3 : ∀ c, Cert.ReferenceIdeal.Body.resTok m' c = Cert.KernelIdeal.Body.resTok m c := by
    intro c
    obtain ⟨a0, a1, a2, a3, a4, a5, a6⟩ := hargs c
    unfold Cert.ReferenceIdeal.Body.resTok Cert.KernelIdeal.Body.resTok
    rw [a0, a1, a2, a3, a4]
  refine ⟨Cert.KernelIdeal.Body.resScores m, Cert.KernelIdeal.Body.resLoss m p, Cert.KernelIdeal.Body.resKl m, Cert.KernelIdeal.Body.resTok m, ?_, ?_⟩
  · exact (θ_run _ _ _).mono (fun _ h c => ⟨(h.1 c).1, (h.1 c).2.1, (h.1 c).2.2.1, (h.1 c).2.2.2, h.2 c⟩)
      (θ_run_and (Cert.KernelIdeal.Body.run m g p hp) (Cert.KernelIdeal.Body.unchanged m g))
  · exact (θ_run _ _ _).mono (fun _ h c => by
      obtain ⟨h0, h1, h2, h3, hr⟩ := h c
      exact ⟨h0.trans (e0 c), h1.trans (e1 c), h2.trans (e2 c), h3.trans (e3 c), hr⟩)
      (Cert.ReferenceIdeal.Body.run m' g' p hp')

theorem claim : Cert.Claim := ⟨Cert.Kernel.Gen.facts, Cert.KernelIdeal.Gen.facts, Cert.ReferenceIdeal.Gen.facts, preFacts,
  fun m ρ _ => Cert.Kernel.Body.frame m ρ, fun m ρ _ => Cert.KernelIdeal.Body.frame m ρ, fun m ρ _ => Cert.KernelIdeal.Body.frame m ρ,
  fun m ρ _ => Cert.ReferenceIdeal.Gen.frame m ρ, fun m ρ _ => Cert.ReferenceIdeal.Gen.frame m ρ, trivial, algebraic⟩

end Cert.Proof

end
